-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S16x2x1024 Cert.KernelIdeal.S16x1x1024
  ∧ IdealRules.bf16_pair.HalfStatement Cert.KernelIdeal.S1x1024
  ∧ IdealRules.bf16_pair.Statement Cert.KernelIdeal.S1x2x1024 Cert.KernelIdeal.S1x1x1024
  ∧ IdealRules.bf16_pair.Statement Cert.KernelIdeal.S8x2x1024 Cert.KernelIdeal.S8x1x1024
  ∧ IdealRules.bf16_pair.Statement Cert.KernelIdeal.S16x1024 Cert.KernelIdeal.S8x1024

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S4x4096x1024 : Shape := ⟨3, ![4, 4096, 1024]⟩
abbrev S1024x12 : Shape := ⟨2, ![1024, 12]⟩
abbrev S1024x1024 : Shape := ⟨2, ![1024, 1024]⟩
abbrev S1024 : Shape := ⟨1, ![1024]⟩
abbrev S_ : Shape := ⟨0, ![]⟩

class Facts : Prop where
  bcast_S_S1024x12 : S_.BroadcastsInDim S1024x12 (![] : Fin 0 → Fin S1024x12.rank)
  reducesTo_S1024x12_S_d0_1 : S1024x12.ReducesTo [0, 1] S_
  h_S_ : 0 < S_.numel
  reducesTo_S1024x12_S1024_d1 : S1024x12.ReducesTo [1] S1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096x1024 .f32) (main_arg1 : FVec F S1024x12 .f32) (main_arg2 : FVec F S1024x12 .f32) (main_arg3 : FVec F S1024x12 .f32) (main_arg4 : FVec F S1024x12 .f32) (main_arg5 : FVec F S1024x1024 .f32) (main_arg6 : FVec F S1024 .f32) (main_arg7 : FVec F S1024x1024 .f32) : IVec S_ 1 :=
  let main_cst : FVec F S_ .f32 := constant S_ .f32 0x00000000#32
  let main_v0 : FVec F S1024x12 .f32 := broadcastInDim S1024x12 ![] bcast_S_S1024x12 main_cst
  let main_v1 : IVec S1024x12 1 := cmpf .oeq main_arg3 main_v0
  let main_c : IVec S_ 1 := constantI S_ 1 1#1
  let main_v2 : IVec S_ 1 := (fun x v => Host.reduce IntOp.andi x v reducesTo_S1024x12_S_d0_1 h_S_) main_v1 main_c
  let main_cst_0 : FVec F S_ .f32 := constant S_ .f32 0xFF800000#32
  let main_v3 : FVec F S1024 .f32 := (fun x v => Host.reduce FloatOps.maximumf x v reducesTo_S1024x12_S1024_d1 h_S_) main_arg1 main_cst_0
  let main_cst_1 : FVec F S_ .f32 := constant S_ .f32 0x7F800000#32
  let main_v4 : FVec F S1024 .f32 := (fun x v => Host.reduce FloatOps.minimumf x v reducesTo_S1024x12_S1024_d1 h_S_) main_arg1 main_cst_1
  let main_v5 : FVec F S1024 .f32 := subf main_v3 main_v4
  let main_cst_2 : FVec F S_ .f32 := constant S_ .f32 0x358637BD#32
  let main_v6 : FVec F S1024 .f32 := broadcastInDim S1024 ![] bcast_S_S1024 main_cst_2
  let main_v7 : IVec S1024 1 := cmpf .oge main_v5 main_v6
  let main_c_3 : IVec S_ 1 := constantI S_ 1 1#1
  let main_v8 : IVec S_ 1 := (fun x v => Host.reduce IntOp.andi x v reducesTo_S1024_S_d0 h_S_) main_v7 main_c_3
  let main_v9 : IVec S_ 1 := andi main_v2 main_v8
  let main_v10 : FVec F S1024x12 .f32 := Host.absf main_arg2
  let main_cst_4 : FVec F S_ .f32 := constant S_ .f32 0x7F800000#32
  let main_v11 : FVec F S1024x12 .f32 := broadcastInDim S1024x12 ![] bcast_S_S1024x12 main_cst_4
  let main_v12 : IVec S1024x12 1 := cmpf .olt main_v10 main_v11
  let main_c_5 : IVec S_ 1 := constantI S_ 1 1#1
  let main_v13 : IVec S_ 1 := (fun x v => Host.reduce IntOp.andi x v reducesTo_S1024x12_S_d0_1 h_S_) main_v12 main_c_5
  let main_v14 : IVec S_ 1 := andi main_v9 main_v13
  main_v14
-- ==== Kernel.lean ====
abbrev S4x4096x1024 : Shape := ⟨3, ![4, 4096, 1024]⟩
abbrev S1024x12 : Shape := ⟨2, ![1024, 12]⟩
abbrev S1024x1024 : Shape := ⟨2, ![1024, 1024]⟩
abbrev S1024 : Shape := ⟨1, ![1024]⟩
abbrev S_ : Shape := ⟨0, ![]⟩
abbrev S1024x4 : Shape := ⟨2, ![1024, 4]⟩
abbrev S1024x40 : Shape := ⟨2, ![1024, 40]⟩
abbrev S40x1024 : Shape := ⟨2, ![40, 1024]⟩
abbrev S1x1024 : Shape := ⟨2, ![1, 1024]⟩
abbrev S16384x1024 : Shape := ⟨2, ![16384, 1024]⟩
abbrev S16x1024 : Shape := ⟨2, ![16, 1024]⟩
abbrev S2x1024 : Shape := ⟨2, ![2, 1024]⟩
abbrev S256x1024 : Shape := ⟨2, ![256, 1024]⟩
abbrev S8x1024 : Shape := ⟨2, ![8, 1024]⟩
abbrev S1x8x1024 : Shape := ⟨3, ![1, 8, 1024]⟩
abbrev S32x8x1024 : Shape := ⟨3, ![32, 8, 1024]⟩
abbrev S32x8x1024x1 : Shape := ⟨4, ![32, 8, 1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024x12, .f32⟩
  | .hbm, ⟨2, _⟩ => ⟨S1024x12, .f32⟩
  | .hbm, ⟨3, _⟩ => ⟨S1024x12, .f32⟩
  | .hbm, ⟨4, _⟩ => ⟨S1024x12, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024x4, .f32⟩
  | .hbm, ⟨10, _⟩ => ⟨S1024x40, .f32⟩
  | .hbm, ⟨11, _⟩ => ⟨S40x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S16384x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S40x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S16x1024, .i32⟩
  | .local _ .vmem, ⟨9, _⟩ => ⟨S2x1024, .f32⟩
  | .local _ .vmem, ⟨10, _⟩ => ⟨S1024x1024, .bf16⟩
  | .local _ .vmem, ⟨11, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S16x2x1024 : Shape := ⟨3, ![16, 2, 1024]⟩
abbrev S16x1x1024 : Shape := ⟨3, ![16, 1, 1024]⟩
abbrev S1x2x1024 : Shape := ⟨3, ![1, 2, 1024]⟩
abbrev S1x1x1024 : Shape := ⟨3, ![1, 1, 1024]⟩
abbrev S8x2x1024 : Shape := ⟨3, ![8, 2, 1024]⟩
abbrev S8x1x1024 : Shape := ⟨3, ![8, 1, 1024]⟩
  | .local _ .vmem, ⟨8, _⟩ => ⟨S16x2x1024, .bf16⟩
variable {F : FTy → Type} [FloatOps F]
-- ==== ReferenceIdeal.lean ====
abbrev S4x4096x1024 : Shape := ⟨3, ![4, 4096, 1024]⟩
abbrev S1024x12 : Shape := ⟨2, ![1024, 12]⟩
abbrev S1024x1024 : Shape := ⟨2, ![1024, 1024]⟩
abbrev S1024 : Shape := ⟨1, ![1024]⟩
abbrev S_ : Shape := ⟨0, ![]⟩
abbrev S1024x12x1 : Shape := ⟨3, ![1024, 12, 1]⟩
abbrev S1 : Shape := ⟨1, ![1]⟩
abbrev S1x1x1 : Shape := ⟨3, ![1, 1, 1]⟩
abbrev S16384x1024 : Shape := ⟨2, ![16384, 1024]⟩
abbrev S1024x1 : Shape := ⟨2, ![1024, 1]⟩
abbrev S1x1024 : Shape := ⟨2, ![1, 1024]⟩
abbrev S16384x1024x1 : Shape := ⟨3, ![16384, 1024, 1]⟩
abbrev S16384x1024x2 : Shape := ⟨3, ![16384, 1024, 2]⟩

abbrev nBuf : Space → Nat
  | .hbm => 313
  | .vmem => 0
  | .smem => 0
  | _ => 0

abbrev hbmTy0_0 (i : Nat) : BufTy := match i % 128 with
  | 0 => ⟨S4x4096x1024, .f32⟩
  | 1 => ⟨S1024x12, .f32⟩
  | 2 => ⟨S1024x12, .f32⟩
  | 3 => ⟨S1024x12, .f32⟩
  | 4 => ⟨S1024x12, .f32⟩
  | 5 => ⟨S1024x1024, .f32⟩
  | 6 => ⟨S1024, .f32⟩
  | 7 => ⟨S1024x1024, .f32⟩
  | 8 => ⟨S1024x12, .i32⟩
  | 9 => ⟨S1024x12, .f32⟩
  | 10 => ⟨S1024x12, .i32⟩
  | 11 => ⟨S_, .i32⟩
  | 12 => ⟨S1024x12, .i32⟩
  | 13 => ⟨S1024x12, .i1⟩
  | 14 => ⟨S_, .i32⟩
  | 15 => ⟨S1024x12, .i32⟩
  | 16 => ⟨S1024x12, .i32⟩
  | 17 => ⟨S1024x12, .i32⟩
  | 18 => ⟨S1024x12x1, .i32⟩
  | 19 => ⟨S1, .i32⟩
  | 20 => ⟨S_, .i32⟩
  | 21 => ⟨S1024x12x1, .i32⟩
  | 22 => ⟨S1024x12x1, .i1⟩
  | 23 => ⟨S1x1x1, .i32⟩
  | 24 => ⟨S1024x12x1, .i32⟩
  | 25 => ⟨S1024x12x1, .i1⟩
  | 26 => ⟨S1024x12x1, .i1⟩
  | 27 => ⟨S_, .i1⟩
  | 28 => ⟨S1024x12, .i1⟩
  | 29 => ⟨S1024x12, .f32⟩
  | 30 => ⟨S_, .f32⟩
  | 31 => ⟨S1024x12, .f32⟩
  | 32 => ⟨S1024x12, .f32⟩
  | 33 => ⟨S_, .i32⟩
  | 34 => ⟨S1024x12, .i32⟩
  | 35 => ⟨S1024x12, .i1⟩
  | 36 => ⟨S_, .i32⟩
  | 37 => ⟨S1024x12, .i32⟩
  | 38 => ⟨S1024x12, .i32⟩
  | 39 => ⟨S1024x12, .i32⟩
  | 40 => ⟨S1024x12x1, .i32⟩
  | 41 => ⟨S1, .i32⟩
  | 42 => ⟨S_, .i32⟩
  | 43 => ⟨S1024x12x1, .i32⟩
  | 44 => ⟨S1024x12x1, .i1⟩
  | 45 => ⟨S1x1x1, .i32⟩
  | 46 => ⟨S1024x12x1, .i32⟩
  | 47 => ⟨S1024x12x1, .i1⟩
  | 48 => ⟨S1024x12x1, .i1⟩
  | 49 => ⟨S_, .i1⟩
  | 50 => ⟨S1024x12, .i1⟩
  | 51 => ⟨S1024x12, .f32⟩
  | 52 => ⟨S_, .f32⟩
  | 53 => ⟨S1024x12, .f32⟩
  | 54 => ⟨S1024x12, .f32⟩
  | 55 => ⟨S_, .i32⟩
  | 56 => ⟨S1024x12, .i32⟩
  | 57 => ⟨S1024x12, .i1⟩
  | 58 => ⟨S_, .i32⟩
  | 59 => ⟨S1024x12, .i32⟩
  | 60 => ⟨S1024x12, .i32⟩
  | 61 => ⟨S1024x12, .i32⟩
  | 62 => ⟨S1024x12x1, .i32⟩
  | 63 => ⟨S1, .i32⟩
  | 64 => ⟨S_, .i32⟩
  | 65 => ⟨S1024x12x1, .i32⟩
  | 66 => ⟨S1024x12x1, .i1⟩
  | 67 => ⟨S1x1x1, .i32⟩
  | 68 => ⟨S1024x12x1, .i32⟩
  | 69 => ⟨S1024x12x1, .i1⟩
  | 70 => ⟨S1024x12x1, .i1⟩
  | 71 => ⟨S_, .i1⟩
  | 72 => ⟨S1024x12, .i1⟩
  | 73 => ⟨S1024x12, .f32⟩
  | 74 => ⟨S_, .f32⟩
  | 75 => ⟨S1024x12, .f32⟩
  | 76 => ⟨S1024x12, .f32⟩
  | 77 => ⟨S_, .i32⟩
  | 78 => ⟨S1024x12, .i32⟩
  | 79 => ⟨S1024x12, .i1⟩
  | 80 => ⟨S_, .i32⟩
  | 81 => ⟨S1024x12, .i32⟩
  | 82 => ⟨S1024x12, .i32⟩
  | 83 => ⟨S1024x12, .i32⟩
  | 84 => ⟨S1024x12x1, .i32⟩
  | 85 => ⟨S1, .i32⟩
  | 86 => ⟨S_, .i32⟩
  | 87 => ⟨S1024x12x1, .i32⟩
  | 88 => ⟨S1024x12x1, .i1⟩
  | 89 => ⟨S1x1x1, .i32⟩
  | 90 => ⟨S1024x12x1, .i32⟩
  | 91 => ⟨S1024x12x1, .i1⟩
  | 92 => ⟨S1024x12x1, .i1⟩
  | 93 => ⟨S_, .i1⟩
  | 94 => ⟨S1024x12, .i1⟩
  | 95 => ⟨S1024x12, .f32⟩
  | 96 => ⟨S_, .f32⟩
  | 97 => ⟨S1024x12, .f32⟩
  | 98 => ⟨S1024x12, .f32⟩
  | 99 => ⟨S1024x12, .f32⟩
  | 100 => ⟨S1024x12, .f32⟩
  | 101 => ⟨S_, .f32⟩
  | 102 => ⟨S1024x12, .f32⟩
  | 103 => ⟨S1024x12, .f32⟩
  | 104 => ⟨S_, .f32⟩
  | 105 => ⟨S1024x12, .f32⟩
  | 106 => ⟨S1024x12, .f32⟩
  | 107 => ⟨S1024x12, .f32⟩
  | 108 => ⟨S1024x12, .f32⟩
  | 109 => ⟨S16384x1024, .f32⟩
  | 110 => ⟨S1024x1, .f32⟩
  | 111 => ⟨S1024, .f32⟩
  | 112 => ⟨S1024x1, .f32⟩
  | 113 => ⟨S1024, .f32⟩
  | 114 => ⟨S1x1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S1024, .f32⟩
  | 121 => ⟨S_, .f32⟩
  | 122 => ⟨S1024, .f32⟩
  | 123 => ⟨S1024, .f32⟩
  | 124 => ⟨S1x1024, .f32⟩
  | 125 => ⟨S16384x1024, .f32⟩
  | 126 => ⟨S16384x1024, .f32⟩
  | 127 => ⟨S1x1024, .f32⟩
  | _ => ⟨S4x4096x1024, .f32⟩

abbrev hbmTy0_1 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S16384x1024, .i32⟩
  | 6 => ⟨S_, .i32⟩
  | 7 => ⟨S_, .i32⟩
  | 8 => ⟨S_, .i32⟩
  | 9 => ⟨S16384x1024, .i32⟩
  | 10 => ⟨S16384x1024, .i32⟩
  | 11 => ⟨S_, .i32⟩
  | 12 => ⟨S16384x1024, .i32⟩
  | 13 => ⟨S16384x1024, .i32⟩
  | 14 => ⟨S16384x1024, .f32⟩
  | 15 => ⟨S16384x1024, .f32⟩
  | 16 => ⟨S1024, .i32⟩
  | 17 => ⟨S1x1024, .i32⟩
  | 18 => ⟨S_, .i32⟩
  | 19 => ⟨S1x1024, .i32⟩
  | 20 => ⟨S1x1024, .i1⟩
  | 21 => ⟨S_, .i32⟩
  | 22 => ⟨S1x1024, .i32⟩
  | 23 => ⟨S1x1024, .i32⟩
  | 24 => ⟨S1x1024, .i32⟩
  | 25 => ⟨S_, .i32⟩
  | 26 => ⟨S16384x1024, .i32⟩
  | 27 => ⟨S16384x1024, .i1⟩
  | 28 => ⟨S_, .i32⟩
  | 29 => ⟨S16384x1024, .i32⟩
  | 30 => ⟨S16384x1024, .i32⟩
  | 31 => ⟨S16384x1024, .i32⟩
  | 32 => ⟨S16384x1024, .i32⟩
  | 33 => ⟨S16384x1024x1, .i32⟩
  | 34 => ⟨S16384x1024x1, .i32⟩
  | 35 => ⟨S16384x1024x2, .i32⟩
  | 36 => ⟨S16384x1024, .f32⟩
  | 37 => ⟨S_, .i32⟩
  | 38 => ⟨S16384x1024, .i32⟩
  | 39 => ⟨S16384x1024, .i32⟩
  | 40 => ⟨S_, .i32⟩
  | 41 => ⟨S1x1024, .i32⟩
  | 42 => ⟨S1x1024, .i1⟩
  | 43 => ⟨S_, .i32⟩
  | 44 => ⟨S1x1024, .i32⟩
  | 45 => ⟨S1x1024, .i32⟩
  | 46 => ⟨S1x1024, .i32⟩
  | 47 => ⟨S_, .i32⟩
  | 48 => ⟨S16384x1024, .i32⟩
  | 49 => ⟨S16384x1024, .i1⟩
  | 50 => ⟨S_, .i32⟩
  | 51 => ⟨S16384x1024, .i32⟩
  | 52 => ⟨S16384x1024, .i32⟩
  | 53 => ⟨S16384x1024, .i32⟩
  | 54 => ⟨S16384x1024, .i32⟩
  | 55 => ⟨S16384x1024x1, .i32⟩
  | 56 => ⟨S16384x1024x1, .i32⟩
  | 57 => ⟨S16384x1024x2, .i32⟩
  | 58 => ⟨S16384x1024, .f32⟩
  | 59 => ⟨S_, .i32⟩
  | 60 => ⟨S1x1024, .i32⟩
  | 61 => ⟨S1x1024, .i1⟩
  | 62 => ⟨S_, .i32⟩
  | 63 => ⟨S1x1024, .i32⟩
  | 64 => ⟨S1x1024, .i32⟩
  | 65 => ⟨S1x1024, .i32⟩
  | 66 => ⟨S_, .i32⟩
  | 67 => ⟨S16384x1024, .i32⟩
  | 68 => ⟨S16384x1024, .i1⟩
  | 69 => ⟨S_, .i32⟩
  | 70 => ⟨S16384x1024, .i32⟩
  | 71 => ⟨S16384x1024, .i32⟩
  | 72 => ⟨S16384x1024, .i32⟩
  | 73 => ⟨S16384x1024, .i32⟩
  | 74 => ⟨S16384x1024x1, .i32⟩
  | 75 => ⟨S16384x1024x1, .i32⟩
  | 76 => ⟨S16384x1024x2, .i32⟩
  | 77 => ⟨S16384x1024, .f32⟩
  | 78 => ⟨S_, .i32⟩
  | 79 => ⟨S16384x1024, .i32⟩
  | 80 => ⟨S16384x1024, .i32⟩
  | 81 => ⟨S_, .i32⟩
  | 82 => ⟨S1x1024, .i32⟩
  | 83 => ⟨S1x1024, .i1⟩
  | 84 => ⟨S_, .i32⟩
  | 85 => ⟨S1x1024, .i32⟩
  | 86 => ⟨S1x1024, .i32⟩
  | 87 => ⟨S1x1024, .i32⟩
  | 88 => ⟨S_, .i32⟩
  | 89 => ⟨S16384x1024, .i32⟩
  | 90 => ⟨S16384x1024, .i1⟩
  | 91 => ⟨S_, .i32⟩
  | 92 => ⟨S16384x1024, .i32⟩
  | 93 => ⟨S16384x1024, .i32⟩
  | 94 => ⟨S16384x1024, .i32⟩
  | 95 => ⟨S16384x1024, .i32⟩
  | 96 => ⟨S16384x1024x1, .i32⟩
  | 97 => ⟨S16384x1024x1, .i32⟩
  | 98 => ⟨S16384x1024x2, .i32⟩
  | 99 => ⟨S16384x1024, .f32⟩
  | 100 => ⟨S_, .i32⟩
  | 101 => ⟨S1x1024, .i32⟩
  | 102 => ⟨S1x1024, .i1⟩
  | 103 => ⟨S_, .i32⟩
  | 104 => ⟨S1x1024, .i32⟩
  | 105 => ⟨S1x1024, .i32⟩
  | 106 => ⟨S1x1024, .i32⟩
  | 107 => ⟨S_, .i32⟩
  | 108 => ⟨S16384x1024, .i32⟩
  | 109 => ⟨S16384x1024, .i1⟩
  | 110 => ⟨S_, .i32⟩
  | 111 => ⟨S16384x1024, .i32⟩
  | 112 => ⟨S16384x1024, .i32⟩
  | 113 => ⟨S16384x1024, .i32⟩
  | 114 => ⟨S16384x1024, .i32⟩
  | 115 => ⟨S16384x1024x1, .i32⟩
  | 116 => ⟨S16384x1024x1, .i32⟩
  | 117 => ⟨S16384x1024x2, .i32⟩
  | 118 => ⟨S16384x1024, .f32⟩
  | 119 => ⟨S_, .i32⟩
  | 120 => ⟨S16384x1024, .i32⟩
  | 121 => ⟨S16384x1024, .i32⟩
  | 122 => ⟨S_, .i32⟩
  | 123 => ⟨S1x1024, .i32⟩
  | 124 => ⟨S1x1024, .i1⟩
  | 125 => ⟨S_, .i32⟩
  | 126 => ⟨S1x1024, .i32⟩
  | 127 => ⟨S1x1024, .i32⟩
  | _ => ⟨S4x4096x1024, .f32⟩

abbrev hbmTy0_2 (i : Nat) : BufTy := match i % 128 with
  | 0 => ⟨S1x1024, .i32⟩
  | 1 => ⟨S_, .i32⟩
  | 2 => ⟨S16384x1024, .i32⟩
  | 3 => ⟨S16384x1024, .i1⟩
  | 4 => ⟨S_, .i32⟩
  | 5 => ⟨S16384x1024, .i32⟩
  | 6 => ⟨S16384x1024, .i32⟩
  | 7 => ⟨S16384x1024, .i32⟩
  | 8 => ⟨S16384x1024, .i32⟩
  | 9 => ⟨S16384x1024x1, .i32⟩
  | 10 => ⟨S16384x1024x1, .i32⟩
  | 11 => ⟨S16384x1024x2, .i32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1_0 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v1 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v2 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v3 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_cst : Ref sig .tc := ⟨.hbm, 96, rfl⟩
abbrev main_call4_v14 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_cst : Ref sig .tc := ⟨.hbm, 101, rfl⟩
abbrev main_v7 : Ref sig .tc := ⟨.hbm, 102, rfl⟩
abbrev main_v8 : Ref sig .tc := ⟨.hbm, 103, rfl⟩
abbrev main_cst_0 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v20 : Ref sig .tc := ⟨.hbm, 119, rfl⟩
abbrev main_v21 : Ref sig .tc := ⟨.hbm, 120, rfl⟩
abbrev main_cst_1 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_cst_2 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_c : Ref sig .tc := ⟨.hbm, 134, rfl⟩
abbrev main_c_3 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_c_4 : Ref sig .tc := ⟨.hbm, 146, rfl⟩
abbrev main_v38 : Ref sig .tc := ⟨.hbm, 147, rfl⟩
abbrev main_v39 : Ref sig .tc := ⟨.hbm, 148, rfl⟩
abbrev main_c_5 : Ref sig .tc := ⟨.hbm, 149, rfl⟩
abbrev main_v40 : Ref sig .tc := ⟨.hbm, 150, rfl⟩
abbrev main_v41 : Ref sig .tc := ⟨.hbm, 151, rfl⟩
abbrev main_v42 : Ref sig .tc := ⟨.hbm, 152, rfl⟩
abbrev main_c_6 : Ref sig .tc := ⟨.hbm, 153, rfl⟩
abbrev main_v43 : Ref sig .tc := ⟨.hbm, 154, rfl⟩
abbrev main_v44 : Ref sig .tc := ⟨.hbm, 155, rfl⟩
abbrev main_c_7 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_c_8 : Ref sig .tc := ⟨.hbm, 165, rfl⟩
abbrev main_v53 : Ref sig .tc := ⟨.hbm, 166, rfl⟩
abbrev main_v54 : Ref sig .tc := ⟨.hbm, 167, rfl⟩
abbrev main_c_9 : Ref sig .tc := ⟨.hbm, 168, rfl⟩
abbrev main_v55 : Ref sig .tc := ⟨.hbm, 169, rfl⟩
abbrev main_v56 : Ref sig .tc := ⟨.hbm, 170, rfl⟩
abbrev main_c_10 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_c_11 : Ref sig .tc := ⟨.hbm, 175, rfl⟩
abbrev main_v60 : Ref sig .tc := ⟨.hbm, 176, rfl⟩
abbrev main_v61 : Ref sig .tc := ⟨.hbm, 177, rfl⟩
abbrev main_c_12 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_c_13 : Ref sig .tc := ⟨.hbm, 187, rfl⟩
abbrev main_v70 : Ref sig .tc := ⟨.hbm, 188, rfl⟩
abbrev main_v71 : Ref sig .tc := ⟨.hbm, 189, rfl⟩
abbrev main_c_14 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_c_15 : Ref sig .tc := ⟨.hbm, 194, rfl⟩
abbrev main_v75 : Ref sig .tc := ⟨.hbm, 195, rfl⟩
abbrev main_v76 : Ref sig .tc := ⟨.hbm, 196, rfl⟩
abbrev main_c_16 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_c_17 : Ref sig .tc := ⟨.hbm, 206, rfl⟩
abbrev main_v85 : Ref sig .tc := ⟨.hbm, 207, rfl⟩
abbrev main_v86 : Ref sig .tc := ⟨.hbm, 208, rfl⟩
abbrev main_c_18 : Ref sig .tc := ⟨.hbm, 209, rfl⟩
abbrev main_v87 : Ref sig .tc := ⟨.hbm, 210, rfl⟩
abbrev main_v88 : Ref sig .tc := ⟨.hbm, 211, rfl⟩
abbrev main_c_19 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_c_20 : Ref sig .tc := ⟨.hbm, 216, rfl⟩
abbrev main_v92 : Ref sig .tc := ⟨.hbm, 217, rfl⟩
abbrev main_v93 : Ref sig .tc := ⟨.hbm, 218, rfl⟩
abbrev main_c_21 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_c_22 : Ref sig .tc := ⟨.hbm, 228, rfl⟩
abbrev main_v102 : Ref sig .tc := ⟨.hbm, 229, rfl⟩
abbrev main_v103 : Ref sig .tc := ⟨.hbm, 230, rfl⟩
abbrev main_c_23 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_c_24 : Ref sig .tc := ⟨.hbm, 235, rfl⟩
abbrev main_v107 : Ref sig .tc := ⟨.hbm, 236, rfl⟩
abbrev main_v108 : Ref sig .tc := ⟨.hbm, 237, rfl⟩
abbrev main_c_25 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_c_26 : Ref sig .tc := ⟨.hbm, 247, rfl⟩
abbrev main_v117 : Ref sig .tc := ⟨.hbm, 248, rfl⟩
abbrev main_v118 : Ref sig .tc := ⟨.hbm, 249, rfl⟩
abbrev main_c_27 : Ref sig .tc := ⟨.hbm, 250, rfl⟩
abbrev main_v119 : Ref sig .tc := ⟨.hbm, 251, rfl⟩
abbrev main_v120 : Ref sig .tc := ⟨.hbm, 252, rfl⟩
abbrev main_c_28 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_c_29 : Ref sig .tc := ⟨.hbm, 257, rfl⟩
abbrev main_v124 : Ref sig .tc := ⟨.hbm, 258, rfl⟩
abbrev main_v125 : Ref sig .tc := ⟨.hbm, 259, rfl⟩
abbrev main_c_30 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_cst_31 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_cst_32 : Ref sig .tc := ⟨.hbm, 275, rfl⟩
abbrev main_v139 : Ref sig .tc := ⟨.hbm, 276, rfl⟩
abbrev main_v140 : Ref sig .tc := ⟨.hbm, 277, rfl⟩
abbrev main_cst_33 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_cst_34 : Ref sig .tc := ⟨.hbm, 282, rfl⟩
abbrev main_v144 : Ref sig .tc := ⟨.hbm, 283, rfl⟩
abbrev main_v145 : Ref sig .tc := ⟨.hbm, 284, rfl⟩
abbrev main_cst_35 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_cst_36 : Ref sig .tc := ⟨.hbm, 290, rfl⟩
abbrev main_v150 : Ref sig .tc := ⟨.hbm, 291, rfl⟩
abbrev main_v151 : Ref sig .tc := ⟨.hbm, 292, rfl⟩
abbrev main_cst_37 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_v155 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩

abbrev nD : Nat := 1
abbrev τ : Topo := Topo.v7x

variable {F : FTy → Type} [FloatOps F]
-- ==== Proof.Sort.lean ====
/- Sorting twelve keys: the odd-even transposition network of twelve rounds, and its agreement with the stable sort. -/
module

public import Idealize.ShloMosaic.Lib.SortNet.Keyed
public import Idealize.ShloMosaic.Lib.SortFacts
public import Mathlib.Data.Prod.Lex
public import Mathlib.Order.WellFounded
public import Mathlib.Data.Nat.Bitwise

@[expose] public section

noncomputable section

namespace Cert.KSort

open Idealize.ShloMosaic Idealize.ShloMosaic.SortNet

/-! ### The network -/

/-- The exchange of two neighbouring positions. -/
def cx (i : Fin 11) : Cmpx 12 := ⟨i.castSucc, i.succ, (Fin.castSucc_lt_succ).ne⟩

/-- The exchanges of an even round, and of an odd one. -/
def round (p : Nat) : Network 12 :=
  if p % 2 = 0 then [cx 0, cx 2, cx 4, cx 6, cx 8, cx 10] else [cx 1, cx 3, cx 5, cx 7, cx 9]

/-- The first `r` rounds. -/
def net : Nat → Network 12
  | 0 => []
  | r + 1 => net r ++ round r

/-! ### The network sorts -/

/-- One exchange of two neighbours in a list of truth tables. -/
def exT : Nat → List Nat → List Nat
  | 0, a :: b :: l => (a &&& b) :: (a ||| b) :: l
  | i + 1, a :: l => a :: exT i l
  | _, l => l

/-- An exchange keeps the number of tables. -/
theorem length_exT (i : Nat) (l : List Nat) : (exT i l).length = l.length := by
  induction i generalizing l with
  | zero =>
    rcases l with _ | ⟨a, _ | ⟨b, l⟩⟩ <;> rfl
  | succ i ih =>
    rcases l with _ | ⟨a, l⟩
    · rfl
    · simp [exT, ih]

/-- An exchange puts the conjunction first, the disjunction second, and leaves the rest. -/
theorem getD_exT (i : Nat) (l : List Nat) (h : i + 1 < l.length) (k : Nat) :
    (exT i l).getD k 0 = if k = i then l.getD i 0 &&& l.getD (i + 1) 0
      else if k = i + 1 then l.getD i 0 ||| l.getD (i + 1) 0 else l.getD k 0 := by
  induction i generalizing l k with
  | zero =>
    rcases l with _ | ⟨a, _ | ⟨b, l⟩⟩
    · simp at h
    · simp at h
    · rcases k with _ | _ | k <;> simp [exT]
  | succ i ih =>
    rcases l with _ | ⟨a, l⟩
    · simp at h
    · rcases k with _ | k
      · simp [exT]
      · have := ih l (by simpa using h) k
        simpa [exT] using this

/-- The truth tables after a list of exchanges. -/
def runT (N : List Nat) (l : List Nat) : List Nat := N.foldl (fun l i => exT i l) l

/-- The row of a list of truth tables at one input. -/
def rowT (l : List Nat) (e : Nat) : Fin 12 → Bool := fun k => (l.getD k.val 0).testBit e

/-- An exchange of tables is, at every input, the comparator on the rows of bits. -/
theorem rowT_exT (i : Fin 11) (l : List Nat) (hl : l.length = 12) (e : Nat) :
    rowT (exT i.val l) e = (cx i).apply (rowT l e) := by
  funext k
  have hi := i.isLt
  unfold rowT Cmpx.apply
  rw [getD_exT i.val l (by omega) k.val]
  have h1 : (k = (cx i).lo) ↔ k.val = i.val := by
    rw [Fin.ext_iff]; rfl
  have h2 : (k = (cx i).hi) ↔ k.val = i.val + 1 := by
    rw [Fin.ext_iff]; rfl
  simp only [h1, h2]
  split
  · rw [Nat.testBit_and]; rfl
  · split
    · rw [Nat.testBit_or]; rfl
    · rfl

/-- A list of exchanges of tables is, at every input, the network on the rows of bits. -/
theorem rowT_runT (N : List (Fin 11)) (l : List Nat) (hl : l.length = 12) (e : Nat) :
    rowT (runT (N.map Fin.val) l) e = Network.apply (N.map cx) (rowT l e) := by
  induction N generalizing l with
  | nil => rfl
  | cons i N ih =>
    have := ih (exT i.val l) (by rw [length_exT, hl])
    rw [rowT_exT i l hl] at this
    exact this

/-- The positions of the exchanges, in the network's order. -/
def steps : Nat → List (Fin 11)
  | 0 => []
  | r + 1 => steps r ++ (if r % 2 = 0 then [0, 2, 4, 6, 8, 10] else [1, 3, 5, 7, 9])

/-- The network is the comparators at the listed positions. -/
theorem net_eq (r : Nat) : net r = (steps r).map cx := by
  induction r with
  | zero => rfl
  | succ r ih =>
    unfold net steps round
    rw [ih, List.map_append]
    split <;> rfl

/-- The truth table of one input bit over all twelve-bit inputs, built by doubling. -/
def tbl (k : Nat) : Nat → Nat
  | 0 => 0
  | n + 1 => tbl k n ||| (if n = k then ((1 <<< (1 <<< n)) - 1) <<< (1 <<< n) else tbl k n <<< (1 <<< n))

/-- The truth tables of the twelve input bits. -/
def tbls : List Nat := (List.range 12).map fun k => tbl k 12

set_option maxRecDepth 100000 in
/-- The twelve starting tables hold, at each of the 4096 inputs, that input's bits. -/
theorem tbls_testBit : ((List.range 4096).all fun e => (List.range 12).all fun k =>
    ((tbls.getD k 0).testBit e == e.testBit k)) = true := by
  decide +kernel

set_option maxRecDepth 100000 in
/-- After twelve rounds every table implies the next one. -/
theorem tbls_sorted : ((List.range 11).all fun k =>
    (runT ((steps 12).map Fin.val) tbls).getD k 0 &&& (runT ((steps 12).map Fin.val) tbls).getD (k + 1) 0
      == (runT ((steps 12).map Fin.val) tbls).getD k 0) = true := by
  decide +kernel

/-- A number below 4096 with given bits. -/
theorem exists_bits (b : Fin 12 → Bool) : ∃ e < 4096, ∀ k : Fin 12, e.testBit k.val = b k := by
  exact ⟨Nat.ofBits b, Nat.ofBits_lt_two_pow b, fun k => Nat.testBit_ofBits_lt b k.val k.isLt⟩

/-- On Booleans the twelve rounds sort. -/
theorem net_sorts_bool (b : Fin 12 → Bool) : Monotone (Network.apply (net 12) b) := by
  obtain ⟨e, he, hb⟩ := exists_bits b
  have h0 : rowT tbls e = b := by
    funext k
    have h := tbls_testBit
    rw [List.all_eq_true] at h
    have h := h e (List.mem_range.mpr he)
    rw [List.all_eq_true] at h
    have h := h k.val (List.mem_range.mpr k.isLt)
    rw [← hb k]
    exact eq_of_beq h
  have h1 : Network.apply (net 12) b = rowT (runT ((steps 12).map Fin.val) tbls) e := by
    rw [rowT_runT _ _ rfl, h0, net_eq]
  rw [h1]
  refine Fin.monotone_iff_le_succ.mpr fun i => ?_
  have h := tbls_sorted
  rw [List.all_eq_true] at h
  have h := eq_of_beq (h i.val (List.mem_range.mpr i.isLt))
  show (_ : Nat).testBit e ≤ (_ : Nat).testBit e
  change (((runT ((steps 12).map Fin.val) tbls).getD i.val 0).testBit e)
    ≤ (((runT ((steps 12).map Fin.val) tbls).getD (i.val + 1) 0).testBit e)
  rw [← h, Nat.testBit_and]
  exact Bool.and_le_right _ _

/-- The twelve rounds sort any keys. -/
theorem net_sorts {α : Type*} [LinearOrder α] (v : Fin 12 → α) : Monotone (Network.apply (net 12) v) :=
  Network.zero_one _ net_sorts_bool v

/-! ### Where each entry comes from -/

variable {α : Type*} [LinearOrder α]

/-- The position that each entry came from, after `r` rounds on the keys `g`. -/
def src (g : Fin 12 → α) (r : Nat) : Fin 12 → Fin 12 := Network.applyBy g (net r) id

/-- One more round acts on the places reached so far. -/
theorem src_succ (g : Fin 12 → α) (r : Nat) : src g (r + 1) = Network.applyBy g (round r) (src g r) := by
  unfold src
  rw [net, Network.applyBy_append]

/-- The comparators of a round touch different places. -/
theorem round_disjoint (r : Nat) : (round r).Pairwise Cmpx.Disjoint := by
  unfold round
  split
  · simp [Cmpx.Disjoint, cx]
  · simp [Cmpx.Disjoint, cx]

/-- A round holds every comparator of its parity. -/
theorem cx_mem_round (r : Nat) (i : Fin 11) (h : i.val % 2 = r % 2) : cx i ∈ round r := by
  unfold round
  have := i.isLt
  split
  · fin_cases i <;> simp_all
  · fin_cases i <;> simp_all <;> omega

/-- Round `r` takes the lesser of two neighbours first. -/
theorem src_lo (g : Fin 12 → α) (r : Nat) (i : Fin 11) (h : i.val % 2 = r % 2) :
    src g (r + 1) i.castSucc = if g (src g r i.succ) < g (src g r i.castSucc) then src g r i.succ else src g r i.castSucc := by
  rw [src_succ]
  exact (Network.applyBy_of_mem_of_disjoint g _ (round_disjoint r) _ (cx_mem_round r i h) (src g r)).1

/-- Round `r` takes the greater of two neighbours second. -/
theorem src_hi (g : Fin 12 → α) (r : Nat) (i : Fin 11) (h : i.val % 2 = r % 2) :
    src g (r + 1) i.succ = if g (src g r i.succ) < g (src g r i.castSucc) then src g r i.castSucc else src g r i.succ := by
  rw [src_succ]
  exact (Network.applyBy_of_mem_of_disjoint g _ (round_disjoint r) _ (cx_mem_round r i h) (src g r)).2

/-- An odd round leaves the first and the last entry. -/
theorem src_idle (g : Fin 12 → α) (r : Nat) (k : Fin 12) (hr : r % 2 = 1) (hk : k = 0 ∨ k = 11) :
    src g (r + 1) k = src g r k := by
  rw [src_succ]
  refine Network.applyBy_of_not_touched g _ _ k fun c hc => ?_
  unfold round at hc
  rw [if_neg (by omega)] at hc
  simp only [List.mem_cons, List.not_mem_nil, or_false] at hc
  rcases hk with rfl | rfl <;> rcases hc with rfl | rfl | rfl | rfl | rfl <;> decide

/-! ### Agreement with the stable sort -/

/-- The order by key and then by position. -/
def lexKey (g : Fin 12 → α) (p : Fin 12) : α ×ₗ Fin 12 := toLex (g p, p)

/-- Entries of equal keys stand in their first order. -/
def Stable (g : Fin 12 → α) (v : Fin 12 → Fin 12) : Prop := ∀ i j, i < j → g (v i) = g (v j) → v i < v j

/-- A comparator keeps equal keys in their order. -/
theorem stable_applyBy_cx (g : Fin 12 → α) (c : Fin 11) (v : Fin 12 → Fin 12) (hv : Stable g v) :
    Stable g (Cmpx.applyBy g (cx c) v) := by
  intro i j hij he
  have hlo : (cx c).lo.val = c.val := rfl
  have hhi : (cx c).hi.val = c.val + 1 := rfl
  by_cases hs : g (v (cx c).hi) < g (v (cx c).lo)
  · have hval : ∀ k, Cmpx.applyBy g (cx c) v k = v (Equiv.swap (cx c).lo (cx c).hi k) := by
      intro k
      by_cases h1 : k = (cx c).lo
      · rw [h1, Cmpx.applyBy_lo, if_pos hs, Equiv.swap_apply_left]
      · by_cases h2 : k = (cx c).hi
        · rw [h2, Cmpx.applyBy_hi, if_pos hs, Equiv.swap_apply_right]
        · rw [Cmpx.applyBy_other g _ v k h1 h2, Equiv.swap_apply_of_ne_of_ne h1 h2]
    rw [hval, hval] at he ⊢
    refine hv _ _ ?_ he
    by_cases hi1 : i = (cx c).lo
    · by_cases hj2 : j = (cx c).hi
      · exfalso
        rw [hi1, hj2, Equiv.swap_apply_left, Equiv.swap_apply_right] at he
        exact absurd he hs.ne
      · have hj1 : j ≠ (cx c).lo := fun h => by rw [h, hi1] at hij; exact lt_irrefl _ hij
        rw [hi1, Equiv.swap_apply_left, Equiv.swap_apply_of_ne_of_ne hj1 hj2]
        rw [Fin.lt_def] at hij ⊢
        simp only [Fin.ext_iff] at hj1 hj2
        rw [hi1] at hij
        omega
    · by_cases hi2 : i = (cx c).hi
      · have hj1 : j ≠ (cx c).lo := fun h => by
          rw [Fin.lt_def, h, hi2] at hij; omega
        have hj2 : j ≠ (cx c).hi := fun h => by rw [h, hi2] at hij; exact lt_irrefl _ hij
        rw [hi2, Equiv.swap_apply_right, Equiv.swap_apply_of_ne_of_ne hj1 hj2]
        rw [Fin.lt_def] at hij ⊢
        rw [hi2] at hij
        omega
      · rw [Equiv.swap_apply_of_ne_of_ne hi1 hi2]
        by_cases hj1 : j = (cx c).lo
        · rw [hj1, Equiv.swap_apply_left]
          rw [Fin.lt_def] at hij ⊢
          rw [hj1] at hij
          omega
        · by_cases hj2 : j = (cx c).hi
          · rw [hj2, Equiv.swap_apply_right]
            rw [Fin.lt_def] at hij ⊢
            simp only [Fin.ext_iff] at hi1 hi2
            rw [hj2] at hij
            omega
          · rw [Equiv.swap_apply_of_ne_of_ne hj1 hj2]
            exact hij
  · have hval : ∀ k, Cmpx.applyBy g (cx c) v k = v k := by
      intro k
      by_cases h1 : k = (cx c).lo
      · rw [h1, Cmpx.applyBy_lo, if_neg hs]
      · by_cases h2 : k = (cx c).hi
        · rw [h2, Cmpx.applyBy_hi, if_neg hs]
        · rw [Cmpx.applyBy_other g _ v k h1 h2]
    rw [hval, hval] at he ⊢
    exact hv _ _ hij he

/-- A list of comparators of neighbours keeps equal keys in their order. -/
theorem stable_applyBy (g : Fin 12 → α) (N : List (Fin 11)) (v : Fin 12 → Fin 12) (hv : Stable g v) :
    Stable g (Network.applyBy g (N.map cx) v) := by
  induction N generalizing v with
  | nil => exact hv
  | cons c N ih => exact ih _ (stable_applyBy_cx g c v hv)

/-- After the twelve rounds the entries ascend by key and then by position. -/
theorem src_strictMono (g : Fin 12 → α) : StrictMono fun k => lexKey g (src g 12 k) := by
  intro i j hij
  have hm : Monotone (g ∘ src g 12) := by
    unfold src
    rw [Network.key_comp_applyBy]
    exact net_sorts _
  have hst : Stable g (src g 12) := by
    unfold src
    rw [net_eq]
    exact stable_applyBy g _ _ fun _ _ h _ => h
  have h := hm hij.le
  refine Prod.Lex.toLex_lt_toLex.mpr ?_
  rcases lt_or_eq_of_le h with h | h
  · exact Or.inl h
  · exact Or.inr ⟨h, hst i j hij h⟩

/-- Every place is the source of some place. -/
theorem src_surjective (g : Fin 12 → α) (r : Nat) : Function.Surjective (src g r) := by
  obtain ⟨σ, h⟩ := Network.exists_perm_applyBy g (net r) (id : Fin 12 → Fin 12)
  unfold src
  rw [h]
  exact σ.surjective

/-- Inserting, by key, an entry that stands before the rest keeps the order by key and then by position. -/
theorem pairwise_insert (g : Fin 12 → α) (a : Fin 12) (l : List (Fin 12)) (ha : ∀ b ∈ l, a < b)
    (hl : l.Pairwise fun x y => lexKey g x < lexKey g y) :
    (insertBefore (fun x y => decide (g x < g y)) a l).Pairwise fun x y => lexKey g x < lexKey g y := by
  induction l with
  | nil => simp [insertBefore]
  | cons b l ih =>
    obtain ⟨hb, hl'⟩ := List.pairwise_cons.mp hl
    unfold insertBefore
    split
    · next h =>
      have hba : g b < g a := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Prod.Lex.toLex_lt_toLex.mpr (Or.inl hba)
      · exact hb x hx'
    · next h =>
      have hab : g a ≤ g b := by simpa using h
      have hlt : lexKey g a < lexKey g b := by
        rw [lexKey, lexKey, Prod.Lex.toLex_lt_toLex]
        rcases lt_or_eq_of_le hab with h | h
        · exact Or.inl h
        · exact Or.inr ⟨h, ha b List.mem_cons_self⟩
      refine List.pairwise_cons.mpr ⟨fun x hx => ?_, hl⟩
      rcases List.mem_cons.mp hx with rfl | hx'
      · exact hlt
      · exact hlt.trans (hb x hx')

/-- A stable sort of increasing places is strictly increasing by key and then place. -/
theorem pairwise_sort (g : Fin 12 → α) (l : List (Fin 12)) (hl : l.Pairwise (· < ·)) :
    (stableSort (fun x y => decide (g x < g y)) l).Pairwise fun x y => lexKey g x < lexKey g y := by
  induction l with
  | nil => exact List.Pairwise.nil
  | cons a l ih =>
    obtain ⟨ha, hl'⟩ := List.pairwise_cons.mp hl
    unfold stableSort
    exact pairwise_insert g a _ (fun b hb => ha b ((perm_stableSort _ l).mem_iff.mp hb)) (ih hl')

/-- The places a stable sort reads from are strictly increasing by key and then place. -/
theorem sortedFrom_strictMono (g : Fin 12 → α) :
    StrictMono fun k => lexKey g (sortedFrom (fun x y => decide (g x < g y)) k) := by
  intro i j hij
  have h := pairwise_sort g (List.finRange 12) (List.pairwise_lt_finRange 12)
  have h := List.pairwise_iff_get.mp h
  exact h _ _ hij

/-- The network and the stable sort put the same entry at each position. -/
theorem sortedFrom_eq_src (g : Fin 12 → α) : sortedFrom (fun x y => decide (g x < g y)) = src g 12 := by
  have h1 := sortedFrom_strictMono g
  have h2 := src_strictMono g
  have hr : ∀ f : Fin 12 → Fin 12, Function.Surjective f →
      Set.range (fun k => lexKey g (f k)) = Set.range (lexKey g) := fun f hf => hf.range_comp (lexKey g)
  have h := (StrictMono.range_inj h1 h2).mp ((hr _ (sortedFrom_surjective _)).trans (hr _ (src_surjective g 12)).symm)
  funext k
  exact (Prod.ext_iff.mp (toLex.injective (congrFun h k))).2

/-- The first sorted key is the least, and the last is the greatest. -/
theorem src_bounds (g : Fin 12 → α) (p : Fin 12) : g (src g 12 0) ≤ g p ∧ g p ≤ g (src g 12 11) := by
  obtain ⟨k, rfl⟩ := src_surjective g 12 p
  have hm : Monotone (g ∘ src g 12) := by
    unfold src
    rw [Network.key_comp_applyBy]
    exact net_sorts _
  exact ⟨hm (Fin.zero_le k), hm (Fin.le_last k)⟩

end Cert.KSort

end
-- ==== Proof.Rows.lean ====
module

public import proofs.«01_k».proof.Proof.Sort
public import proofs.«01_k».proof.Proof.Gen.KernelIdeal.Frame
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

/-- The entry of the parameter block at row `12 * s + p` (`s = 0`: grid, `1`: coefficients, `2`: knot strengths) and
    feature `f`. -/
def cell (raw : FVec Ideal S40x1024 .f32) (s : Fin 3) (p : Fin 12) (f : Fin 1024) : EReal :=
  raw (ix2 (⟨12 * s.val + p.val, by omega⟩ : Fin 40) f)

/-- The twelve grid values of feature `f`. -/
def keys (raw : FVec Ideal S40x1024 .f32) (f : Fin 1024) : Fin 12 → EReal := fun p => cell raw 0 p f

/-- Row `k` of parameter kind `s` after `r` rounds of exchanges: in each feature, the entry at the position the
    exchanges of that feature's grid values have brought to place `k`. -/
def row (raw : FVec Ideal S40x1024 .f32) (s : Fin 3) (r : Nat) (k : Fin 12) : FVec Ideal S1x1024 .f32 :=
  fun j => cell raw s (src (keys raw (j 1)) r k) (j 1)

/-- The row at place `k` of kind `s` before any exchange is the block's row `12 * s + k`. -/
theorem row_load (raw : FVec Ideal S40x1024 .f32) (s : Fin 3) (k : Fin 12) {n : Nat} (hn : n = 12 * s.val + k.val)
    (inb : ∀ a, (![n, 0] : Fin 2 → Nat) a + S1x1024.size a ≤ S40x1024.size a) :
    View.ld (Val := Elt Ideal) (e' := .f32) (S := S40x1024) raw (Rect.unit (s := S40x1024) ![n, 0] S1x1024.size inb) =
      row raw s 0 k := by
  subst hn
  funext j
  refine View.ld_unit_apply_of (Val := Elt Ideal) (e := .f32) (S := S40x1024) raw _ _ inb j _ fun a => ?_
  match a with
  | ⟨0, _⟩ =>
    have h : (j 0 : Nat) = 0 := Nat.lt_one_iff.mp (j 0).isLt
    show 12 * s.val + k.val = 12 * s.val + k.val + (j 0 : Nat)
    omega
  | ⟨1, _⟩ => exact (Nat.zero_add _).symm

/-- The exchange of neighbouring places `a`, `b`: what place `a` holds afterwards. -/
theorem row_lo (raw : FVec Ideal S40x1024 .f32) (s : Fin 3) (r : Nat) (a b : Fin 12)
    (h : a.val + 1 = b.val ∧ a.val % 2 = r % 2) :
    select (cmpf .ogt (row raw 0 r a) (row raw 0 r b)) (row raw s r b) (row raw s r a) = row raw s (r + 1) a := by
  obtain ⟨i, rfl⟩ : ∃ i : Fin 11, i.castSucc = a := ⟨⟨a.val, by omega⟩, rfl⟩
  obtain rfl : i.succ = b := Fin.ext (by simpa using h.1)
  funext j
  have e := src_lo (keys raw (j 1)) r i h.2
  show _ = cell raw s (src (keys raw (j 1)) (r + 1) i.castSucc) (j 1)
  rw [e]
  pointwise [row]
  exact (apply_ite (fun p => cell raw s p (j 1)) _ _ _).symm

/-- The exchange of neighbouring places `a`, `b`: what place `b` holds afterwards. -/
theorem row_hi (raw : FVec Ideal S40x1024 .f32) (s : Fin 3) (r : Nat) (a b : Fin 12)
    (h : a.val + 1 = b.val ∧ a.val % 2 = r % 2) :
    select (cmpf .ogt (row raw 0 r a) (row raw 0 r b)) (row raw s r a) (row raw s r b) = row raw s (r + 1) b := by
  obtain ⟨i, rfl⟩ : ∃ i : Fin 11, i.castSucc = a := ⟨⟨a.val, by omega⟩, rfl⟩
  obtain rfl : i.succ = b := Fin.ext (by simpa using h.1)
  funext j
  have e := src_hi (keys raw (j 1)) r i h.2
  show _ = cell raw s (src (keys raw (j 1)) (r + 1) i.succ) (j 1)
  rw [e]
  pointwise [row]
  exact (apply_ite (fun p => cell raw s p (j 1)) _ _ _).symm

/-- A place that no exchange of the round touches keeps its row. -/
theorem row_idle (raw : FVec Ideal S40x1024 .f32) (s : Fin 3) (r : Nat) (k : Fin 12)
    (h : r % 2 = 1 ∧ (k = 0 ∨ k = 11)) : row raw s r k = row raw s (r + 1) k := by
  funext j
  exact congrArg (fun p => cell raw s p (j 1)) (src_idle _ r k h.1 h.2).symm

/-- The modulated coefficients at place `k`: coefficient times the logistic of the knot strength. -/
def mcRow (raw : FVec Ideal S40x1024 .f32) (k : Fin 12) : FVec Ideal S1x1024 .f32 :=
  mulf (row raw 1 12 k) (logistic (row raw 2 12 k))

/-- The product of a coefficient row and a gate row is the modulated row. -/
theorem mcRow_fold (raw : FVec Ideal S40x1024 .f32) (k : Fin 12) :
    mulf (row raw 1 12 k) (logistic (row raw 2 12 k)) = mcRow raw k := rfl

/-- The pair of rows for segment `a`: the step to the next place on the even row, the value on the odd row. -/
def pairRow (raw : FVec Ideal S40x1024 .f32) (a : Fin 12) (b : Fin 12) : FVec Ideal S1x2x1024 .bf16 :=
  interleaveRows S1x2x1024
    (shapeCast S1x1x1024 (truncf .bf16 (subf (mcRow raw b) (mcRow raw a)) bitsLt_bf16_f32 : FVec Ideal S1x1024 .bf16) shapeCasts_S1x1024_S1x1x1024)
    (shapeCast S1x1x1024 (truncf .bf16 (mcRow raw a) bitsLt_bf16_f32 : FVec Ideal S1x1024 .bf16) shapeCasts_S1x1024_S1x1x1024)
    bitcasts_S1x2x1024_w16_S1x1x1024_w32

/-- The interleaved step and value rows are the segment's pair of rows. -/
theorem pairRow_fold (raw : FVec Ideal S40x1024 .f32) (a b : Fin 12) :
    interleaveRows S1x2x1024
    (shapeCast S1x1x1024 (truncf .bf16 (subf (mcRow raw b) (mcRow raw a)) bitsLt_bf16_f32 : FVec Ideal S1x1024 .bf16) shapeCasts_S1x1024_S1x1x1024)
    (shapeCast S1x1x1024 (truncf .bf16 (mcRow raw a) bitsLt_bf16_f32 : FVec Ideal S1x1024 .bf16) shapeCasts_S1x1024_S1x1x1024)
    bitcasts_S1x2x1024_w16_S1x1x1024_w32 = pairRow raw a b := rfl

/-- The segment that table row `i` describes: `0 … 7` for the first eight rows, `3 … 10` for the last eight. -/
def seg (i : Fin 16) : Nat := if i.val < 8 then i.val else i.val - 5

/-- The segment table: for table row `i`, the modulated coefficient at the segment's left end (odd half) and its
    increase over the segment (even half). -/
def tabV (raw : FVec Ideal S40x1024 .f32) : FVec Ideal S16x2x1024 .bf16 := fun j =>
  if (j 1 : Nat) = 0 then
    mcRow raw ⟨seg (j 0) + 1, by unfold seg; have : (j 0 : Nat) < 16 := (j 0).isLt; split <;> omega⟩ (ix2 0 (j 2)) -
      mcRow raw ⟨seg (j 0), by unfold seg; have : (j 0 : Nat) < 16 := (j 0).isLt; split <;> omega⟩ (ix2 0 (j 2))
  else mcRow raw ⟨seg (j 0), by unfold seg; have : (j 0 : Nat) < 16 := (j 0).isLt; split <;> omega⟩ (ix2 0 (j 2))

/-- A segment's pair of rows at an index: the step on the even half, the value on the odd half. -/
theorem pairRow_apply (raw : FVec Ideal S40x1024 .f32) (a b : Fin 12) (x : S1x2x1024.Idx) :
    pairRow raw a b x = if (x 1 : Nat) = 0 then mcRow raw b (ix2 0 (x 2)) - mcRow raw a (ix2 0 (x 2)) else mcRow raw a (ix2 0 (x 2)) := by
  idx_vars x
  pointwise [pairRow]
  rw [Nat.mod_eq_of_lt x1.isLt]
  rfl

/-- The scale row: eleven over the spread of the grid values, the spread at least the floor `0x358637BD`. -/
def scaleRow (raw : FVec Ideal S40x1024 .f32) : FVec Ideal S1x1024 .f32 :=
  k0_pay493 (row raw 0 12 0) (row raw 0 12 11)

/-- The two affine rows: the scale, and the least grid value times the scale. -/
def affV (raw : FVec Ideal S40x1024 .f32) : FVec Ideal S2x1024 .f32 := fun j =>
  if (j 0 : Nat) = 0 then scaleRow raw (ix2 0 (j 1)) else row raw 0 12 0 (ix2 0 (j 1)) * scaleRow raw (ix2 0 (j 1))

/-- A stored pair of rows is the segment table's pair of rows there. -/
theorem pair_piece (raw : FVec Ideal S40x1024 .f32) {n : Nat} {a b : Fin 12} (hn : n < 16)
    (ha : a.val = seg ⟨n, hn⟩) (hb : b.val = seg ⟨n, hn⟩ + 1)
    (inb : ∀ k, (![n, 0, 0] : Fin 3 → Nat) k + S1x2x1024.size k ≤ S16x2x1024.size k) (x : S1x2x1024.Idx) :
    pairRow raw a b x = tabV raw ((Rect.unit (s := S16x2x1024) ![n, 0, 0] S1x2x1024.size inb).emb x) := by
  idx_vars x
  have e : (Rect.unit (s := S16x2x1024) ![n, 0, 0] S1x2x1024.size inb).emb (ix3 x0 x1 x2) =
      ix3 (⟨n, hn⟩ : Fin 16) x1 x2 := by
    funext k
    apply Fin.ext
    match k with
    | ⟨0, _⟩ => show n + 1 * x0.val = n; omega
    | ⟨1, _⟩ => show 0 + 1 * x1.val = x1.val; omega
    | ⟨2, _⟩ => show 0 + 1 * x2.val = x2.val; omega
  have hA : (⟨seg ⟨n, hn⟩, ha ▸ a.isLt⟩ : Fin 12) = a := Fin.ext ha.symm
  have hB : (⟨seg ⟨n, hn⟩ + 1, hb ▸ b.isLt⟩ : Fin 12) = b := Fin.ext hb.symm
  rw [e, pairRow_apply]
  show _ = if x1.val = 0 then mcRow raw ⟨seg ⟨n, hn⟩ + 1, _⟩ (ix2 0 x2) - mcRow raw ⟨seg ⟨n, hn⟩, _⟩ (ix2 0 x2)
    else mcRow raw ⟨seg ⟨n, hn⟩, _⟩ (ix2 0 x2)
  rw [hA, hB]
  rfl

/-- The stored scale row. -/
theorem scale_piece (raw : FVec Ideal S40x1024 .f32)
    (inb : ∀ k, (![0, 0] : Fin 2 → Nat) k + S1x1024.size k ≤ S2x1024.size k) (x : S1x1024.Idx) :
    k0_pay494 (row raw 0 12 0) (row raw 0 12 11) x =
      affV raw ((Rect.unit (s := S2x1024) ![0, 0] S1x1024.size inb).emb x) := by
  idx_vars x
  obtain rfl : x0 = 0 := Subsingleton.elim _ _
  have e : (Rect.unit (s := S2x1024) ![0, 0] S1x1024.size inb).emb (ix2 0 x1) = ix2 (0 : Fin 2) x1 := by
    funext k
    apply Fin.ext
    match k with
    | ⟨0, _⟩ => rfl
    | ⟨1, _⟩ => show 0 + 1 * x1.val = x1.val; omega
  rw [e]
  unfold k0_pay494
  rw [shapeCast_self]
  rfl

/-- The stored row of the least grid value times the scale. -/
theorem shift_piece (raw : FVec Ideal S40x1024 .f32)
    (inb : ∀ k, (![1, 0] : Fin 2 → Nat) k + S1x1024.size k ≤ S2x1024.size k) (x : S1x1024.Idx) :
    k0_pay495 (row raw 0 12 0) (row raw 0 12 11) x =
      affV raw ((Rect.unit (s := S2x1024) ![1, 0] S1x1024.size inb).emb x) := by
  idx_vars x
  obtain rfl : x0 = 0 := Subsingleton.elim _ _
  have e : (Rect.unit (s := S2x1024) ![1, 0] S1x1024.size inb).emb (ix2 0 x1) = ix2 (1 : Fin 2) x1 := by
    funext k
    apply Fin.ext
    match k with
    | ⟨0, _⟩ => rfl
    | ⟨1, _⟩ => show 0 + 1 * x1.val = x1.val; omega
  rw [e]
  unfold k0_pay495
  rw [shapeCast_self]
  rfl

end Cert.KernelIdeal.Tables
-- ==== Proof.Tables.lean ====
module

public import proofs.«01_k».proof.Proof.Rows

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

set_option maxHeartbeats 4000000 in
/-- What the first point's stores leave in the affine scratch. -/
theorem aff_canon (c : Dev nD) (arg2 : Memref sig .tc .vmem S40x1024 .f32) (harg2 : arg2.IsWhole)
    (x1 : Vec Ideal S40x1024 .f32) (y : S2x1024.Idx) (hy : ∃ p ∈ kernelRun0_A.sl.HS1_2 c arg2 harg2 x1, y ∈ p.1.set) :
    View.canon (kernelRun0_A.sl.HS1_2 c arg2 harg2 x1) y = affV x1 y := by
  refine View.canon_apply_of_pieces (affV x1) _ ?_ y hy
  unfold kernelRun0_A.sl.HS1_2
  simp (disch := decide) only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119,
    kernelRun0_A.sl.r_120, kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128, kernelRun0_A.sl.r_129,
    kernelRun0_A.sl.r_130, kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138, kernelRun0_A.sl.r_139,
    kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149,
    kernelRun0_A.sl.r_150, kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158, kernelRun0_A.sl.r_159,
    kernelRun0_A.sl.r_160, kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168, kernelRun0_A.sl.r_169,
    kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179,
    kernelRun0_A.sl.r_180, kernelRun0_A.sl.r_181, kernelRun0_A.sl.r_182, kernelRun0_A.sl.r_183, kernelRun0_A.sl.r_184,
    kernelRun0_A.sl.r_185, kernelRun0_A.sl.r_186, kernelRun0_A.sl.r_187, kernelRun0_A.sl.r_188, kernelRun0_A.sl.r_189,
    kernelRun0_A.sl.r_190, kernelRun0_A.sl.r_191, kernelRun0_A.sl.r_192, kernelRun0_A.sl.r_193, kernelRun0_A.sl.r_194,
    kernelRun0_A.sl.r_195, kernelRun0_A.sl.r_196, kernelRun0_A.sl.r_197, kernelRun0_A.sl.r_198, kernelRun0_A.sl.r_199,
    kernelRun0_A.sl.r_200, kernelRun0_A.sl.r_201, kernelRun0_A.sl.r_202, kernelRun0_A.sl.r_203, kernelRun0_A.sl.r_204,
    kernelRun0_A.sl.r_205, kernelRun0_A.sl.r_206, kernelRun0_A.sl.r_207, kernelRun0_A.sl.r_208, kernelRun0_A.sl.r_209,
    kernelRun0_A.sl.r_210, kernelRun0_A.sl.r_211, kernelRun0_A.sl.r_212, kernelRun0_A.sl.r_213, kernelRun0_A.sl.r_214,
    kernelRun0_A.sl.r_215, kernelRun0_A.sl.r_216, kernelRun0_A.sl.r_217, kernelRun0_A.sl.r_218, kernelRun0_A.sl.r_219,
    kernelRun0_A.sl.r_220, kernelRun0_A.sl.r_221, kernelRun0_A.sl.r_222, kernelRun0_A.sl.r_223, kernelRun0_A.sl.r_224,
    kernelRun0_A.sl.r_225, kernelRun0_A.sl.r_226, kernelRun0_A.sl.r_227, kernelRun0_A.sl.r_228, kernelRun0_A.sl.r_229,
    kernelRun0_A.sl.r_230, kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238, kernelRun0_A.sl.r_239,
    kernelRun0_A.sl.r_240, kernelRun0_A.sl.r_241, kernelRun0_A.sl.r_242, kernelRun0_A.sl.r_243, kernelRun0_A.sl.r_244,
    kernelRun0_A.sl.r_245, kernelRun0_A.sl.r_246, kernelRun0_A.sl.r_247, kernelRun0_A.sl.r_248, kernelRun0_A.sl.r_249,
    kernelRun0_A.sl.r_250, kernelRun0_A.sl.r_251, kernelRun0_A.sl.r_252, kernelRun0_A.sl.r_253, kernelRun0_A.sl.r_254,
    kernelRun0_A.sl.r_255, kernelRun0_A.sl.r_256, kernelRun0_A.sl.r_257, kernelRun0_A.sl.r_258, kernelRun0_A.sl.r_259,
    kernelRun0_A.sl.r_260, kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268, kernelRun0_A.sl.r_269,
    kernelRun0_A.sl.r_270, kernelRun0_A.sl.r_271, kernelRun0_A.sl.r_272, kernelRun0_A.sl.r_273, kernelRun0_A.sl.r_274,
    kernelRun0_A.sl.r_275, kernelRun0_A.sl.r_276, kernelRun0_A.sl.r_277, kernelRun0_A.sl.r_278, kernelRun0_A.sl.r_279,
    kernelRun0_A.sl.r_280, kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288, kernelRun0_A.sl.r_289,
    kernelRun0_A.sl.r_290, kernelRun0_A.sl.r_291, kernelRun0_A.sl.r_292, kernelRun0_A.sl.v452, kernelRun0_A.sl.v454,
    kernelRun0_A.sl.v456, kernelRun0_A.sl.v458, kernelRun0_A.sl.v460, kernelRun0_A.sl.v462, kernelRun0_A.sl.v464,
    kernelRun0_A.sl.v466, kernelRun0_A.sl.v468, kernelRun0_A.sl.v470, kernelRun0_A.sl.v472, kernelRun0_A.sl.v474,
    kernelRun0_A.sl.v476, kernelRun0_A.sl.v478, kernelRun0_A.sl.v480, kernelRun0_A.sl.v482, kernelRun0_A.sl.v484,
    kernelRun0_A.sl.v486, kernelRun0_A.sl.v488, kernelRun0_A.sl.v490, kernelRun0_A.sl.v492, kernelRun0_A.sl.v494,
    kernelRun0_A.sl.v496, kernelRun0_A.sl.v498, kernelRun0_A.sl.v500, kernelRun0_A.sl.v502, kernelRun0_A.sl.v504,
    kernelRun0_A.sl.v506, kernelRun0_A.sl.v508, kernelRun0_A.sl.v510,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270,
    k0_pay271, k0_pay272, k0_pay273, k0_pay274, k0_pay275, k0_pay276, k0_pay277, k0_pay278, k0_pay279, k0_pay280,
    k0_pay281, k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310,
    k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330,
    k0_pay331, k0_pay332, k0_pay333, k0_pay334, k0_pay335, k0_pay336, k0_pay337, k0_pay338, k0_pay339, k0_pay340,
    k0_pay341, k0_pay342, k0_pay343, k0_pay344, k0_pay345, k0_pay346, k0_pay347, k0_pay348, k0_pay349, k0_pay350,
    k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370,
    k0_pay371, k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389, k0_pay390,
    k0_pay391, k0_pay392, k0_pay393, k0_pay394, k0_pay395, k0_pay396, k0_pay397, k0_pay398, k0_pay399, k0_pay400,
    k0_pay401, k0_pay402, k0_pay403, k0_pay404, k0_pay405, k0_pay406, k0_pay407, k0_pay408, k0_pay409, k0_pay410,
    k0_pay411, k0_pay412, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492,
    View.readAt_eq_ld, harg2.read_unread, shapeCast_self,
    row_load x1 0 0 (n := 0) rfl, row_load x1 0 1 (n := 1) rfl, row_load x1 0 2 (n := 2) rfl, row_load x1 0 3 (n := 3)
    rfl, row_load x1 0 4 (n := 4) rfl, row_load x1 0 5 (n := 5) rfl, row_load x1 0 6 (n := 6) rfl, row_load x1 0 7 (n :=
    7) rfl, row_load x1 0 8 (n := 8) rfl, row_load x1 0 9 (n := 9) rfl, row_load x1 0 10 (n := 10) rfl, row_load x1 0 11
    (n := 11) rfl, row_load x1 1 0 (n := 12) rfl, row_load x1 1 1 (n := 13) rfl, row_load x1 1 2 (n := 14) rfl, row_load
    x1 1 3 (n := 15) rfl, row_load x1 1 4 (n := 16) rfl, row_load x1 1 5 (n := 17) rfl, row_load x1 1 6 (n := 18) rfl,
    row_load x1 1 7 (n := 19) rfl, row_load x1 1 8 (n := 20) rfl, row_load x1 1 9 (n := 21) rfl, row_load x1 1 10 (n :=
    22) rfl, row_load x1 1 11 (n := 23) rfl, row_load x1 2 0 (n := 24) rfl, row_load x1 2 1 (n := 25) rfl, row_load x1 2
    2 (n := 26) rfl, row_load x1 2 3 (n := 27) rfl, row_load x1 2 4 (n := 28) rfl, row_load x1 2 5 (n := 29) rfl,
    row_load x1 2 6 (n := 30) rfl, row_load x1 2 7 (n := 31) rfl, row_load x1 2 8 (n := 32) rfl, row_load x1 2 9 (n :=
    33) rfl, row_load x1 2 10 (n := 34) rfl, row_load x1 2 11 (n := 35) rfl,
    row_lo, row_hi, row_idle, Nat.reduceAdd]
  refine View.PiecesOf.mem ?_
  exact ⟨shift_piece x1 inb_S2x1024_S1x1024_1_0, scale_piece x1 inb_S2x1024_S1x1024_0_0, trivial⟩

set_option maxHeartbeats 4000000 in
/-- What the first point's stores leave in the table scratch. -/
theorem tab_canon (c : Dev nD) (arg2 : Memref sig .tc .vmem S40x1024 .f32) (harg2 : arg2.IsWhole)
    (x1 : Vec Ideal S40x1024 .f32) (y : S16x2x1024.Idx) (hy : ∃ p ∈ kernelRun0_A.sl.HS0_16 c arg2 harg2 x1, y ∈ p.1.set) :
    View.canon (kernelRun0_A.sl.HS0_16 c arg2 harg2 x1) y = tabV x1 y := by
  refine View.canon_apply_of_pieces (tabV x1) _ ?_ y hy
  unfold kernelRun0_A.sl.HS0_16
  simp (disch := decide) only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119,
    kernelRun0_A.sl.r_120, kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128, kernelRun0_A.sl.r_129,
    kernelRun0_A.sl.r_130, kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138, kernelRun0_A.sl.r_139,
    kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149,
    kernelRun0_A.sl.r_150, kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158, kernelRun0_A.sl.r_159,
    kernelRun0_A.sl.r_160, kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168, kernelRun0_A.sl.r_169,
    kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179,
    kernelRun0_A.sl.r_180, kernelRun0_A.sl.r_181, kernelRun0_A.sl.r_182, kernelRun0_A.sl.r_183, kernelRun0_A.sl.r_184,
    kernelRun0_A.sl.r_185, kernelRun0_A.sl.r_186, kernelRun0_A.sl.r_187, kernelRun0_A.sl.r_188, kernelRun0_A.sl.r_189,
    kernelRun0_A.sl.r_190, kernelRun0_A.sl.r_191, kernelRun0_A.sl.r_192, kernelRun0_A.sl.r_193, kernelRun0_A.sl.r_194,
    kernelRun0_A.sl.r_195, kernelRun0_A.sl.r_196, kernelRun0_A.sl.r_197, kernelRun0_A.sl.r_198, kernelRun0_A.sl.r_199,
    kernelRun0_A.sl.r_200, kernelRun0_A.sl.r_201, kernelRun0_A.sl.r_202, kernelRun0_A.sl.r_203, kernelRun0_A.sl.r_204,
    kernelRun0_A.sl.r_205, kernelRun0_A.sl.r_206, kernelRun0_A.sl.r_207, kernelRun0_A.sl.r_208, kernelRun0_A.sl.r_209,
    kernelRun0_A.sl.r_210, kernelRun0_A.sl.r_211, kernelRun0_A.sl.r_212, kernelRun0_A.sl.r_213, kernelRun0_A.sl.r_214,
    kernelRun0_A.sl.r_215, kernelRun0_A.sl.r_216, kernelRun0_A.sl.r_217, kernelRun0_A.sl.r_218, kernelRun0_A.sl.r_219,
    kernelRun0_A.sl.r_220, kernelRun0_A.sl.r_221, kernelRun0_A.sl.r_222, kernelRun0_A.sl.r_223, kernelRun0_A.sl.r_224,
    kernelRun0_A.sl.r_225, kernelRun0_A.sl.r_226, kernelRun0_A.sl.r_227, kernelRun0_A.sl.r_228, kernelRun0_A.sl.r_229,
    kernelRun0_A.sl.r_230, kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238, kernelRun0_A.sl.r_239,
    kernelRun0_A.sl.r_240, kernelRun0_A.sl.r_241, kernelRun0_A.sl.r_242, kernelRun0_A.sl.r_243, kernelRun0_A.sl.r_244,
    kernelRun0_A.sl.r_245, kernelRun0_A.sl.r_246, kernelRun0_A.sl.r_247, kernelRun0_A.sl.r_248, kernelRun0_A.sl.r_249,
    kernelRun0_A.sl.r_250, kernelRun0_A.sl.r_251, kernelRun0_A.sl.r_252, kernelRun0_A.sl.r_253, kernelRun0_A.sl.r_254,
    kernelRun0_A.sl.r_255, kernelRun0_A.sl.r_256, kernelRun0_A.sl.r_257, kernelRun0_A.sl.r_258, kernelRun0_A.sl.r_259,
    kernelRun0_A.sl.r_260, kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268, kernelRun0_A.sl.r_269,
    kernelRun0_A.sl.r_270, kernelRun0_A.sl.r_271, kernelRun0_A.sl.r_272, kernelRun0_A.sl.r_273, kernelRun0_A.sl.r_274,
    kernelRun0_A.sl.r_275, kernelRun0_A.sl.r_276, kernelRun0_A.sl.r_277, kernelRun0_A.sl.r_278, kernelRun0_A.sl.r_279,
    kernelRun0_A.sl.r_280, kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288, kernelRun0_A.sl.r_289,
    kernelRun0_A.sl.r_290, kernelRun0_A.sl.r_291, kernelRun0_A.sl.r_292, kernelRun0_A.sl.v452, kernelRun0_A.sl.v454,
    kernelRun0_A.sl.v456, kernelRun0_A.sl.v458, kernelRun0_A.sl.v460, kernelRun0_A.sl.v462, kernelRun0_A.sl.v464,
    kernelRun0_A.sl.v466, kernelRun0_A.sl.v468, kernelRun0_A.sl.v470, kernelRun0_A.sl.v472, kernelRun0_A.sl.v474,
    kernelRun0_A.sl.v476, kernelRun0_A.sl.v478, kernelRun0_A.sl.v480, kernelRun0_A.sl.v482, kernelRun0_A.sl.v484,
    kernelRun0_A.sl.v486, kernelRun0_A.sl.v488, kernelRun0_A.sl.v490, kernelRun0_A.sl.v492, kernelRun0_A.sl.v494,
    kernelRun0_A.sl.v496, kernelRun0_A.sl.v498, kernelRun0_A.sl.v500, kernelRun0_A.sl.v502, kernelRun0_A.sl.v504,
    kernelRun0_A.sl.v506, kernelRun0_A.sl.v508, kernelRun0_A.sl.v510,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270,
    k0_pay271, k0_pay272, k0_pay273, k0_pay274, k0_pay275, k0_pay276, k0_pay277, k0_pay278, k0_pay279, k0_pay280,
    k0_pay281, k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310,
    k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330,
    k0_pay331, k0_pay332, k0_pay333, k0_pay334, k0_pay335, k0_pay336, k0_pay337, k0_pay338, k0_pay339, k0_pay340,
    k0_pay341, k0_pay342, k0_pay343, k0_pay344, k0_pay345, k0_pay346, k0_pay347, k0_pay348, k0_pay349, k0_pay350,
    k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370,
    k0_pay371, k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389, k0_pay390,
    k0_pay391, k0_pay392, k0_pay393, k0_pay394, k0_pay395, k0_pay396, k0_pay397, k0_pay398, k0_pay399, k0_pay400,
    k0_pay401, k0_pay402, k0_pay403, k0_pay404, k0_pay405, k0_pay406, k0_pay407, k0_pay408, k0_pay409, k0_pay410,
    k0_pay411, k0_pay412, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492, k0_pay493, k0_pay494, k0_pay495,
    k0_pay496, k0_pay497, k0_pay498, k0_pay499, k0_pay500, k0_pay501, k0_pay502, k0_pay503, k0_pay504, k0_pay505,
    k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525,
    View.readAt_eq_ld, harg2.read_unread, shapeCast_self,
    row_load x1 0 0 (n := 0) rfl, row_load x1 0 1 (n := 1) rfl, row_load x1 0 2 (n := 2) rfl, row_load x1 0 3 (n := 3)
    rfl, row_load x1 0 4 (n := 4) rfl, row_load x1 0 5 (n := 5) rfl, row_load x1 0 6 (n := 6) rfl, row_load x1 0 7 (n :=
    7) rfl, row_load x1 0 8 (n := 8) rfl, row_load x1 0 9 (n := 9) rfl, row_load x1 0 10 (n := 10) rfl, row_load x1 0 11
    (n := 11) rfl, row_load x1 1 0 (n := 12) rfl, row_load x1 1 1 (n := 13) rfl, row_load x1 1 2 (n := 14) rfl, row_load
    x1 1 3 (n := 15) rfl, row_load x1 1 4 (n := 16) rfl, row_load x1 1 5 (n := 17) rfl, row_load x1 1 6 (n := 18) rfl,
    row_load x1 1 7 (n := 19) rfl, row_load x1 1 8 (n := 20) rfl, row_load x1 1 9 (n := 21) rfl, row_load x1 1 10 (n :=
    22) rfl, row_load x1 1 11 (n := 23) rfl, row_load x1 2 0 (n := 24) rfl, row_load x1 2 1 (n := 25) rfl, row_load x1 2
    2 (n := 26) rfl, row_load x1 2 3 (n := 27) rfl, row_load x1 2 4 (n := 28) rfl, row_load x1 2 5 (n := 29) rfl,
    row_load x1 2 6 (n := 30) rfl, row_load x1 2 7 (n := 31) rfl, row_load x1 2 8 (n := 32) rfl, row_load x1 2 9 (n :=
    33) rfl, row_load x1 2 10 (n := 34) rfl, row_load x1 2 11 (n := 35) rfl,
    row_lo, row_hi, row_idle, Nat.reduceAdd, mcRow_fold, pairRow_fold]
  refine View.PiecesOf.mem ?_
  exact ⟨fun x => pair_piece x1 (by decide) (by decide) (by decide) inb_S16x2x1024_S1x2x1024_15_0_0 x,
    fun x => pair_piece x1 (by decide) (by decide) (by decide) inb_S16x2x1024_S1x2x1024_14_0_0 x,
    fun x => pair_piece x1 (by decide) (by decide) (by decide) inb_S16x2x1024_S1x2x1024_13_0_0 x,
    fun x => pair_piece x1 (by decide) (by decide) (by decide) inb_S16x2x1024_S1x2x1024_12_0_0 x,
    fun x => pair_piece x1 (by decide) (by decide) (by decide) inb_S16x2x1024_S1x2x1024_7_0_0 x,
    fun x => pair_piece x1 (by decide) (by decide) (by decide) inb_S16x2x1024_S1x2x1024_11_0_0 x,
    fun x => pair_piece x1 (by decide) (by decide) (by decide) inb_S16x2x1024_S1x2x1024_6_0_0 x,
    fun x => pair_piece x1 (by decide) (by decide) (by decide) inb_S16x2x1024_S1x2x1024_10_0_0 x,
    fun x => pair_piece x1 (by decide) (by decide) (by decide) inb_S16x2x1024_S1x2x1024_5_0_0 x,
    fun x => pair_piece x1 (by decide) (by decide) (by decide) inb_S16x2x1024_S1x2x1024_9_0_0 x,
    fun x => pair_piece x1 (by decide) (by decide) (by decide) inb_S16x2x1024_S1x2x1024_4_0_0 x,
    fun x => pair_piece x1 (by decide) (by decide) (by decide) inb_S16x2x1024_S1x2x1024_8_0_0 x,
    fun x => pair_piece x1 (by decide) (by decide) (by decide) inb_S16x2x1024_S1x2x1024_3_0_0 x,
    fun x => pair_piece x1 (by decide) (by decide) (by decide) inb_S16x2x1024_S1x2x1024_2_0_0 x,
    fun x => pair_piece x1 (by decide) (by decide) (by decide) inb_S16x2x1024_S1x2x1024_1_0_0 x,
    fun x => pair_piece x1 (by decide) (by decide) (by decide) inb_S16x2x1024_S1x2x1024_0_0_0 x, trivial⟩

end Cert.KernelIdeal.Tables
-- ==== Proof.Spline.lean ====
module

public import proofs.«01_k».proof.Proof.Sort
public import Idealize.ShloMosaic.PureOps
public import Idealize.ShloMosaic.Lib.IdealHost

@[expose] public section

noncomputable section

open Idealize.ShloMosaic

namespace Cert.KSpline

/-- The float word of two. -/
theorem c2 : Ideal.ofBits .f32 0x40000000#32 = ((2 : ℝ) : EReal) := by
  simp [Ideal.ofBits, Ideal.ieee, -EReal.coe_mul]; norm_num
/-- The float word of three. -/
theorem c3 : Ideal.ofBits .f32 0x40400000#32 = ((3 : ℝ) : EReal) := by
  simp [Ideal.ofBits, Ideal.ieee, -EReal.coe_mul]; norm_num
/-- The float word of eight. -/
theorem c8 : Ideal.ofBits .f32 0x41000000#32 = ((8 : ℝ) : EReal) := by
  simp [Ideal.ofBits, Ideal.ieee, -EReal.coe_mul]; norm_num
/-- The float word of ten. -/
theorem c10 : Ideal.ofBits .f32 0x41200000#32 = ((10 : ℝ) : EReal) := by
  simp [Ideal.ofBits, Ideal.ieee, -EReal.coe_mul]; norm_num
/-- The float word of eleven. -/
theorem c11 : Ideal.ofBits .f32 0x41300000#32 = ((11 : ℝ) : EReal) := by
  simp [Ideal.ofBits, Ideal.ieee, -EReal.coe_mul]; norm_num
/-- The float word of minus two. -/
theorem cm2 : Ideal.ofBits .f32 0xC0000000#32 = ((-2 : ℝ) : EReal) := by
  simp [Ideal.ofBits, Ideal.ieee, -EReal.coe_mul, -EReal.coe_neg]; norm_num

/-- The least admitted width of the grid. -/
def eps : EReal := Ideal.ofBits .f32 0x358637BD#32

/-- The floor of the range is a positive real. -/
theorem eps_real : ∃ e : ℝ, 0 < e ∧ eps = (e : EReal) := by
  refine ⟨8796093 * 2 ^ (-43 : ℤ), by positivity, ?_⟩
  unfold eps; simp [Ideal.ofBits, Ideal.ieee, -EReal.coe_mul]

/-- The factor that takes the grid's width to the eleven segments. -/
def scaleS (lo hi : EReal) : EReal := Ideal.div (Ideal.ofBits .f32 0x41300000#32) (max (hi - lo) eps)

/-- The normalised input the kernel computes: scaled, then shifted, then clipped to `[0, 11]`. -/
def normK (lo hi x : EReal) : EReal :=
  min (Ideal.ofBits .f32 0x41300000#32) (max 0 (x * scaleS lo hi - lo * scaleS lo hi))

/-- The normalised input of the reference: clipped to the grid, shifted, divided by the width, scaled. -/
def normR (lo hi x : EReal) : EReal :=
  Ideal.div (min hi (max lo x) - lo) (max (hi - lo) eps) * Ideal.ofBits .f32 0x41300000#32

/-- On a grid at least `eps` wide both normalised inputs are one real number in `[0, 11]`. -/
theorem norm_eq (lo hi x : EReal) (h : eps ≤ hi - lo) :
    ∃ r : ℝ, 0 ≤ r ∧ r ≤ 11 ∧ normK lo hi x = r ∧ normR lo hi x = r := by
  obtain ⟨e, he, hE⟩ := eps_real
  have hmax : max (hi - lo) eps = hi - lo := max_eq_left h
  unfold normK normR scaleS
  rw [hmax, c11]
  rw [hE] at h
  have zero_case : hi - lo = ⊤ → lo ≠ ⊤ → ∃ r : ℝ, 0 ≤ r ∧ r ≤ 11 ∧
      min ((11 : ℝ) : EReal) (max 0 (x * Ideal.div ((11 : ℝ) : EReal) (hi - lo) - lo * Ideal.div ((11 : ℝ) : EReal) (hi - lo))) = r ∧
      Ideal.div (min hi (max lo x) - lo) (hi - lo) * ((11 : ℝ) : EReal) = r := by
    intro ht _
    refine ⟨0, le_refl _, by norm_num, ?_, ?_⟩
    · rw [ht]; simp only [Ideal.div, EReal.inv_top, EReal.top_ne_zero, if_false, mul_zero, sub_zero, max_self]
      rw [EReal.coe_zero]; exact min_eq_right (by exact_mod_cast (by norm_num : (0:ℝ) ≤ 11))
    · rw [ht]; simp only [Ideal.div, EReal.inv_top, EReal.top_ne_zero, if_false, mul_zero, zero_mul, EReal.coe_zero]
  induction lo with
  | bot =>
    induction hi with
    | bot => exact absurd h (by simp)
    | top => exact zero_case (by simp) (by simp)
    | coe b => exact zero_case (by simp) (by simp)
  | top =>
    exfalso
    have : hi - (⊤ : EReal) = ⊥ := by induction hi <;> simp
    rw [this] at h; simp at h
  | coe a =>
    induction hi with
    | bot => exact absurd h (by simp)
    | top => exact zero_case (by simp) (by simp)
    | coe b =>
      have hd : e ≤ b - a := by exact_mod_cast h
      have hd0 : 0 < b - a := lt_of_lt_of_le he hd
      have hs : Ideal.div ((11 : ℝ) : EReal) (((b - a : ℝ)) : EReal) = ((11 / (b - a) : ℝ) : EReal) := by
        rw [Ideal.div_coe hd0.ne', ← EReal.coe_mul]; congr 1; ring
      have hsp : 0 < 11 / (b - a) := by positivity
      rw [← EReal.coe_sub, hs, Ideal.div_coe hd0.ne']
      induction x with
      | bot =>
        refine ⟨0, le_refl _, by norm_num, ?_, ?_⟩
        · rw [EReal.bot_mul_coe_of_pos hsp, ← EReal.coe_mul, EReal.bot_sub, max_eq_left bot_le, EReal.coe_zero]
          exact min_eq_right (by exact_mod_cast (by norm_num : (0:ℝ) ≤ 11))
        · rw [max_eq_left bot_le, min_eq_right (by exact_mod_cast (by linarith : a ≤ b)), ← EReal.coe_sub, sub_self]
          simp
      | top =>
        refine ⟨11, by norm_num, le_refl _, ?_, ?_⟩
        · rw [EReal.top_mul_coe_of_pos hsp, ← EReal.coe_mul, EReal.top_sub_coe, max_eq_right le_top, min_eq_left le_top]
        · rw [max_eq_right le_top, min_eq_left le_top, ← EReal.coe_sub, ← EReal.coe_mul, ← EReal.coe_mul]
          congr 1; field_simp
      | coe x =>
        have hxx : (x * (11 / (b - a)) - a * (11 / (b - a))) = (x - a) / (b - a) * 11 := by field_simp
        have key : min 11 (max 0 ((x - a) / (b - a) * 11)) = (min b (max a x) - a) * (1 / (b - a)) * 11 := by
          have hab : a ≤ b := by linarith
          rcases le_total x a with hx | hx
          · have h0 : (x - a) / (b - a) * 11 ≤ 0 := by
              have : (x - a) / (b - a) ≤ 0 := div_nonpos_of_nonpos_of_nonneg (by linarith) hd0.le
              linarith
            rw [max_eq_left hx, min_eq_right hab, sub_self, max_eq_left h0]
            norm_num
          · have h0 : 0 ≤ (x - a) / (b - a) * 11 := by
              have : 0 ≤ (x - a) / (b - a) := div_nonneg (by linarith) hd0.le
              linarith
            rw [max_eq_right hx, max_eq_right h0]
            rcases le_total x b with hb | hb
            · have h1 : (x - a) / (b - a) * 11 ≤ 11 := by
                have : (x - a) / (b - a) ≤ 1 := (div_le_one hd0).2 (by linarith)
                linarith
              rw [min_eq_right hb, min_eq_right h1]; ring
            · have h1 : 11 ≤ (x - a) / (b - a) * 11 := by
                have : 1 ≤ (x - a) / (b - a) := (one_le_div hd0).2 (by linarith)
                linarith
              rw [min_eq_left hb, min_eq_left h1]; field_simp
        refine ⟨min 11 (max 0 ((x - a) / (b - a) * 11)), ?_, min_le_left _ _, ?_, ?_⟩
        · exact le_min (by norm_num) (le_max_left _ _)
        · rw [← EReal.coe_mul, ← EReal.coe_mul, ← EReal.coe_sub, hxx, ← EReal.coe_zero, ← EReal.coe_strictMono.monotone.map_max,
            ← EReal.coe_strictMono.monotone.map_min]
        · rw [key, ← EReal.coe_strictMono.monotone.map_max, ← EReal.coe_strictMono.monotone.map_min, ← EReal.coe_sub,
            ← EReal.coe_mul, ← EReal.coe_mul]

/-- The segment of a normalised input: its whole part, the last segment holding its right end. -/
def segOf (r : ℝ) : Nat := min ⌊r⌋₊ 10

/-- A segment is at most the eleventh. -/
theorem segOf_le (r : ℝ) : segOf r ≤ 10 := min_le_right _ _

/-- The kernel's segment number, as a float. -/
theorem floor_seg (r : ℝ) (h0 : 0 ≤ r) :
    min (Ideal.liftRound Int.floor (r : EReal)) (Ideal.ofBits .f32 0x41200000#32) = ((segOf r : ℝ) : EReal) := by
  rw [Ideal.liftRound_coe, c10, ← EReal.coe_strictMono.monotone.map_min]
  congr 1
  unfold segOf
  have hf : (⌊r⌋ : ℝ) = ((⌊r⌋₊ : ℕ) : ℝ) := by
    rw [← natCast_floor_eq_intCast_floor h0]
  rw [hf]
  push_cast
  rfl

/-- A nonnegative value is at least eight exactly when its segment is. -/
theorem eight_le_iff (r : ℝ) (h0 : 0 ≤ r) : Ideal.ofBits .f32 0x41000000#32 ≤ (r : EReal) ↔ 8 ≤ segOf r := by
  rw [c8, EReal.coe_le_coe_iff]
  unfold segOf
  rw [le_min_iff]
  constructor
  · intro h; exact ⟨Nat.le_floor (by exact_mod_cast h), by norm_num⟩
  · intro h; exact_mod_cast (Nat.le_floor_iff h0).1 h.1

/-- A small whole number converts to its word. -/
theorem fptosi_nat (q : Nat) (h : q ≤ 11) : Ideal.fptosi 32 (((q : ℝ)) : EReal) = BitVec.ofNat 32 q := by
  unfold Ideal.fptosi
  rw [Ideal.toIntClamped_coe, if_pos (by positivity), Int.floor_natCast]
  interval_cases q <;> decide

/-- The kernel's segment number, as a word: rounding a whole number changes nothing. -/
theorem word_seg (q : Nat) (h : q ≤ 10) :
    Ideal.fptosi 32 (Ideal.liftRound Ideal.roundHalfEven (((q : ℝ)) : EReal)) = BitVec.ofNat 32 q := by
  rw [Ideal.liftRound_coe]
  have : Ideal.roundHalfEven (q : ℝ) = (q : ℤ) := by
    unfold Ideal.roundHalfEven
    simp only [Int.floor_natCast, Int.cast_natCast, sub_self]
    rw [if_pos (by norm_num)]
  rw [this, Int.cast_natCast]
  exact fptosi_nat q (by omega)

/-- The reference's segment number, as a word. -/
theorem ref_seg (r : ℝ) (h0 : 0 ≤ r) (h1 : r ≤ 11) :
    IntOp.minsi 10#32 (IntOp.maxsi 0#32 (Ideal.fptosi 32 (r : EReal))) = BitVec.ofNat 32 (segOf r) := by
  have hq : ⌊r⌋₊ ≤ 11 := Nat.floor_le_of_le (by exact_mod_cast h1)
  have hw : Ideal.fptosi 32 (r : EReal) = BitVec.ofNat 32 ⌊r⌋₊ := by
    rw [← fptosi_nat _ hq]
    unfold Ideal.fptosi
    rw [Ideal.toIntClamped_coe, Ideal.toIntClamped_coe, if_pos h0, if_pos (by positivity), Int.floor_natCast,
      ← Int.natCast_floor_eq_floor h0]
  rw [hw]; unfold segOf
  generalize ⌊r⌋₊ = q at hq
  interval_cases q <;> decide

/-- A segment's word converts back to its number. -/
theorem sitofp_seg (q : Nat) (h : q ≤ 10) : (((BitVec.ofNat 32 q).toInt : ℝ) : EReal) = ((q : ℝ) : EReal) := by
  have hi : (BitVec.ofNat 32 q).toInt = (q : ℤ) := by interval_cases q <;> decide
  rw [hi, Int.cast_natCast]

/-- The cubic between two values with end slopes zero, in the kernel's form and in the reference's. -/
theorem hermite (p0 p1 t : ℝ) (m0 m1 dx h10 h11 : EReal) (hm0 : m0 = 0) (hm1 : m1 = 0) :
    (p0 : EReal) + ((p1 : EReal) - p0) * ((t : EReal) * t * (Ideal.ofBits .f32 0x40400000#32 - Ideal.ofBits .f32 0x40000000#32 * t))
      = ((Ideal.ofBits .f32 0x40000000#32 * ((t : EReal) * t * t) - Ideal.ofBits .f32 0x40400000#32 * ((t : EReal) * t) + 1) * p0
        + h10 * m0 * dx
        + (Ideal.ofBits .f32 0xC0000000#32 * ((t : EReal) * t * t) + Ideal.ofBits .f32 0x40400000#32 * ((t : EReal) * t)) * p1) + h11 * m1 * dx := by
  rw [hm0, hm1, c2, c3, cm2]
  simp only [mul_zero, zero_mul, add_zero]
  simp only [← EReal.coe_mul, ← EReal.coe_sub, ← EReal.coe_add, ← EReal.coe_one]
  congr 1
  ring

end Cert.KSpline
-- ==== Proof.Chunk.lean ====
module

public import proofs.«01_k».proof.Proof.Tables
public import proofs.«01_k».proof.Proof.Spline

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

/-- One row of eight table entries, read in each feature at the index `i` (an index below zero counted from the end). -/
def gathV (T : FVec Ideal S8x1024 .bf16) (i : IVec S256x1024 32) : FVec Ideal S256x1024 .f32 :=
  shapeCast S256x1024 (dynamicGather 1
    (broadcastTo S32x8x1024 (shapeCast S1x8x1024 (extf .f32 T bitsLt_bf16_f32 : FVec Ideal S8x1024 .f32) shapeCasts_S8x1024_S1x8x1024)
      broadcasts_S1x8x1024_S32x8x1024)
    (shapeCast S32x8x1024 (shapeCast S32x8x1024x1
      (select (cmpi .slt (shapeCast S32x8x1024 i shapeCasts_S256x1024_S32x8x1024) (broadcast S32x8x1024 0#32))
        (addi (shapeCast S32x8x1024 i shapeCasts_S256x1024_S32x8x1024) (broadcast S32x8x1024 8#32))
        (shapeCast S32x8x1024 i shapeCasts_S256x1024_S32x8x1024)) shapeCasts_S32x8x1024_S32x8x1024x1)
      shapeCasts_S32x8x1024x1_S32x8x1024)) shapeCasts_S32x8x1024_S256x1024

/-- The row, out of eight, a word names (a word below zero counted from the end). -/
def at8 (w : BitVec 32) : Fin 8 :=
  ⟨(Scalar.select (IntOp.cmpi .slt w 0#32) (IntOp.addi w 8#32) w).toNat % 8, Nat.mod_lt _ (by decide)⟩

/-- The gather at an index: the row of the table that the index word names. -/
theorem gathV_apply (T : FVec Ideal S8x1024 .bf16) (i : IVec S256x1024 32) (p : Fin 256) (f : Fin 1024) :
   gathV T i (ix2 p f) = T (ix2 (at8 (i (ix2 p f))) f) := by
  pointwise [gathV]
  rfl

/-- The normalised input: scaled, shifted, clipped to `[0, 11]`. -/
def xnV (s g : FVec Ideal S1x1024 .f32) (x : FVec Ideal S256x1024 .f32) : FVec Ideal S256x1024 .f32 :=
  minimumf (broadcast S256x1024 (Scalar.ofBits .f32 0x41300000#32)) (maximumf (broadcast S256x1024 (Scalar.ofBits .f32 0x00000000#32))
    (subf (mulf x (broadcastTo S256x1024 s broadcasts_S1x1024_S256x1024)) (broadcastTo S256x1024 g broadcasts_S1x1024_S256x1024)))

/-- The segment number of the normalised input. -/
def flV (xn : FVec Ideal S256x1024 .f32) : FVec Ideal S256x1024 .f32 :=
  minimumf (floor xn) (broadcast S256x1024 (Scalar.ofBits .f32 0x41200000#32))

/-- A table entry: from the last eight rows for inputs at least eight, from the first eight rows otherwise. -/
def pickV (xn : FVec Ideal S256x1024 .f32) (T0 T1 : FVec Ideal S8x1024 .bf16) : FVec Ideal S256x1024 .f32 :=
  select (cmpf .oge xn (broadcast S256x1024 (Scalar.ofBits .f32 0x41000000#32)))
    (gathV T1 (subi (fptosi 32 (roundeven (flV xn))) (broadcast S256x1024 3#32)))
    (gathV T0 (fptosi 32 (roundeven (flV xn))))

/-- The spline value of a chunk of rows, from the normalised input and the tables' halves. -/
def curveV (xn : FVec Ideal S256x1024 .f32) (H0 H1 L0 L1 : FVec Ideal S8x1024 .bf16) : FVec Ideal S256x1024 .bf16 :=
  truncf .bf16 (addf (pickV xn H0 H1) (mulf (pickV xn L0 L1)
    (mulf (mulf (subf xn (flV xn)) (subf xn (flV xn)))
      (subf (broadcast S256x1024 (Scalar.ofBits .f32 0x40400000#32))
        (mulf (broadcast S256x1024 (Scalar.ofBits .f32 0x40000000#32)) (subf xn (flV xn))))))) bitsLt_bf16_f32

/-- One half (`p = 0`: even rows, `1`: odd rows) of eight pairs of table rows. -/
def halfV (p : Fin 2) (T : FVec Ideal S8x2x1024 .bf16) : FVec Ideal S8x1024 .bf16 :=
  shapeCast S8x1024 (rowsOfParity p S8x1x1024 T bitcasts_S8x2x1024_w16_S8x1x1024_w32) shapeCasts_S8x1x1024_S8x1024

/-- The chunk of rows from row `n` on: the spline value over the loaded rows and tables. -/
def chunkV (s g : FVec Ideal S1x1024 .f32) (T0 T1 : FVec Ideal S8x2x1024 .bf16) (x : FVec Ideal S256x1024 .f32) :
    FVec Ideal S256x1024 .bf16 :=
  curveV (xnV s g x) (halfV 1 T0) (halfV 1 T1) (halfV 0 T0) (halfV 0 T1)

/-- One spline value, from the scale `s`, the shift `g`, the two halves of a feature's table and the input `x`. -/
def splS (s g : EReal) (T0 T1 : Fin 8 → Fin 2 → EReal) (x : EReal) : EReal :=
  let xn : EReal := min (Ideal.ofBits .f32 0x41300000#32) (max 0 (x * s - g))
  let fl : EReal := min (Ideal.liftRound Int.floor xn) (Ideal.ofBits .f32 0x41200000#32)
  let w : BitVec 32 := Ideal.fptosi 32 (Ideal.liftRound Ideal.roundHalfEven fl)
  let pick : Fin 2 → EReal := fun h =>
    if Ideal.ofBits .f32 0x41000000#32 ≤ xn then T1 (at8 (IntOp.subi w 3#32)) h else T0 (at8 w) h
  pick 1 + pick 0 * ((xn - fl) * (xn - fl) * (Ideal.ofBits .f32 0x40400000#32 - Ideal.ofBits .f32 0x40000000#32 * (xn - fl)))

/-- A chunk of spline values at an index: the scalar formula over the feature's column of the tables. -/
theorem chunkV_apply (s g : FVec Ideal S1x1024 .f32) (T0 T1 : FVec Ideal S8x2x1024 .bf16) (x : FVec Ideal S256x1024 .f32) (p : Fin 256) (f : Fin 1024) :
   chunkV s g T0 T1 x (ix2 p f) = splS (s (ix2 0 f)) (g (ix2 0 f)) (fun i h => T0 (ix3 i h f)) (fun i h => T1 (ix3 i h f)) (x (ix2 p f)) := by
  pointwise [chunkV, curveV, pickV, halfV, flV, xnV, gathV_apply]
  rfl

/-- A block of spline values: from the two affine rows, the segment table and the block's inputs. -/
def splV (aff : FVec Ideal S2x1024 .f32) (tab : FVec Ideal S16x2x1024 .bf16) (x : FVec Ideal S1024x1024 .f32) :
    FVec Ideal S1024x1024 .bf16 := fun j =>
  splS (aff (ix2 0 (j 1))) (aff (ix2 1 (j 1)))
    (fun i h => tab (ix3 ⟨i.val, by have := i.isLt; omega⟩ h (j 1)))
    (fun i h => tab (ix3 ⟨8 + i.val, by have := i.isLt; omega⟩ h (j 1))) (x j)

/-- A chunk of rows is the block of spline values there. -/
theorem spl_piece (aff : FVec Ideal S2x1024 .f32) (tab : FVec Ideal S16x2x1024 .bf16) (x : FVec Ideal S1024x1024 .f32)
    {n : Nat} (inb : ∀ k, (![n, 0] : Fin 2 → Nat) k + S256x1024.size k ≤ S1024x1024.size k)
    (i0 : ∀ k, (![0, 0] : Fin 2 → Nat) k + S1x1024.size k ≤ S2x1024.size k)
    (i1 : ∀ k, (![1, 0] : Fin 2 → Nat) k + S1x1024.size k ≤ S2x1024.size k)
    (j0 : ∀ k, (![0, 0, 0] : Fin 3 → Nat) k + S8x2x1024.size k ≤ S16x2x1024.size k)
    (j1 : ∀ k, (![8, 0, 0] : Fin 3 → Nat) k + S8x2x1024.size k ≤ S16x2x1024.size k)
    (y : S256x1024.Idx) :
    chunkV (View.ld (Val := Elt Ideal) (e' := .f32) (S := S2x1024) aff (Rect.unit (s := S2x1024) ![0, 0] S1x1024.size i0))
      (View.ld (Val := Elt Ideal) (e' := .f32) (S := S2x1024) aff (Rect.unit (s := S2x1024) ![1, 0] S1x1024.size i1))
      (View.ld (Val := Elt Ideal) (e' := .bf16) (S := S16x2x1024) tab (Rect.unit (s := S16x2x1024) ![0, 0, 0] S8x2x1024.size j0))
      (View.ld (Val := Elt Ideal) (e' := .bf16) (S := S16x2x1024) tab (Rect.unit (s := S16x2x1024) ![8, 0, 0] S8x2x1024.size j1))
      (View.ld (Val := Elt Ideal) (e' := .f32) (S := S1024x1024) x (Rect.unit (s := S1024x1024) ![n, 0] S256x1024.size inb)) y
    = splV aff tab x ((Rect.unit (s := S1024x1024) ![n, 0] S256x1024.size inb).emb y) := by
  idx_vars y
  have hn : n + y0.val < 1024 := by
    have h := inb 0
    have : n + 256 ≤ 1024 := h
    have := y0.isLt
    omega
  have e : (Rect.unit (s := S1024x1024) ![n, 0] S256x1024.size inb).emb (ix2 y0 y1) = ix2 (⟨n + y0.val, hn⟩ : Fin 1024) y1 := by
    funext k
    apply Fin.ext
    match k with
    | ⟨0, _⟩ => show n + 1 * y0.val = n + y0.val; omega
    | ⟨1, _⟩ => show 0 + 1 * y1.val = y1.val; omega
  rw [chunkV_apply, e]
  show splS _ _ _ _ _ = splS (aff (ix2 0 y1)) (aff (ix2 1 y1))
    (fun i h => tab (ix3 ⟨i.val, by have := i.isLt; omega⟩ h y1))
    (fun i h => tab (ix3 ⟨8 + i.val, by have := i.isLt; omega⟩ h y1)) (x (ix2 ⟨n + y0.val, hn⟩ y1))
  congr 1
  · refine congrArg aff ?_
    funext k
    apply Fin.ext
    match k with
    | ⟨0, _⟩ => rfl
    | ⟨1, _⟩ => show 0 + 1 * y1.val = y1.val; omega
  · refine congrArg aff ?_
    funext k
    apply Fin.ext
    match k with
    | ⟨0, _⟩ => rfl
    | ⟨1, _⟩ => show 0 + 1 * y1.val = y1.val; omega
  · funext i h
    refine congrArg tab ?_
    funext k
    apply Fin.ext
    match k with
    | ⟨0, _⟩ => show 0 + 1 * i.val = i.val; omega
    | ⟨1, _⟩ => show 0 + 1 * h.val = h.val; omega
    | ⟨2, _⟩ => show 0 + 1 * y1.val = y1.val; omega
  · funext i h
    refine congrArg tab ?_
    funext k
    apply Fin.ext
    match k with
    | ⟨0, _⟩ => show 8 + 1 * i.val = 8 + i.val; omega
    | ⟨1, _⟩ => show 0 + 1 * h.val = h.val; omega
    | ⟨2, _⟩ => show 0 + 1 * y1.val = y1.val; omega
  · exact congrArg x e

end Cert.KernelIdeal.Tables
-- ==== Proof.Block.lean ====
module

public import proofs.«01_k».proof.Proof.Chunk

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

set_option maxHeartbeats 4000000 in
/-- At a later step, the stored block of spline values. -/
theorem spl_canon_B (c : Dev nD) (arg1 : Memref sig .tc .vmem S1024x1024 .f32) (harg1 : arg1.IsWhole)
    (arg7 : Memref sig .tc .vmem S16x2x1024 .bf16) (harg7 : arg7.IsWhole) (arg8 : Memref sig .tc .vmem S2x1024 .f32) (harg8 : arg8.IsWhole)
    (x0 : Vec Ideal S1024x1024 .f32) (xs0 : Vec Ideal S16x2x1024 .bf16) (xs1 : Vec Ideal S2x1024 .f32)
    (y : S1024x1024.Idx) (hy : ∃ p ∈ kernelRun0_B.sl.HS2_4 c arg1 harg1 arg7 harg7 arg8 harg8 x0 xs0 xs1, y ∈ p.1.set) :
    View.canon (kernelRun0_B.sl.HS2_4 c arg1 harg1 arg7 harg7 arg8 harg8 x0 xs0 xs1) y = splV xs1 xs0 x0 y := by
  refine View.canon_apply_of_pieces (splV xs1 xs0 x0) _ ?_ y hy
  unfold kernelRun0_B.sl.HS2_4
  simp (disch := decide) only [kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13,
    kernelRun0_B.sl.r_14, kernelRun0_B.sl.r_15, kernelRun0_B.sl.r_16, kernelRun0_B.sl.r_17,
    kernelRun0_B.sl.r_18, kernelRun0_B.sl.r_19, kernelRun0_B.sl.r_20, kernelRun0_B.sl.r_21,
    kernelRun0_B.sl.r_22, kernelRun0_B.sl.r_23, kernelRun0_B.sl.r_24, kernelRun0_B.sl.r_25,
    kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33,
    kernelRun0_B.sl.r_34, kernelRun0_B.sl.r_35, kernelRun0_B.sl.r_36, kernelRun0_B.sl.r_37,
    kernelRun0_B.sl.r_38, kernelRun0_B.sl.r_39, kernelRun0_B.sl.r_40, kernelRun0_B.sl.r_41,
    kernelRun0_B.sl.r_42, kernelRun0_B.sl.r_43, kernelRun0_B.sl.r_44, kernelRun0_B.sl.r_45,
    kernelRun0_B.sl.r_46, kernelRun0_B.sl.r_47, kernelRun0_B.sl.r_48, kernelRun0_B.sl.r_49,
    kernelRun0_B.sl.r_50, kernelRun0_B.sl.r_51, kernelRun0_B.sl.r_52, kernelRun0_B.sl.r_53,
    kernelRun0_B.sl.r_54, kernelRun0_B.sl.r_55, kernelRun0_B.sl.r_56,
    k0_pay526, k0_pay527, k0_pay528, k0_pay529, k0_pay530, k0_pay531, k0_pay532, k0_pay533, k0_pay534, k0_pay535,
    k0_pay536, k0_pay537, k0_pay538, k0_pay539, k0_pay540, k0_pay541, k0_pay542, k0_pay543, k0_pay544,
    k0_pay545, k0_pay546, k0_pay547, k0_pay548, k0_pay549, k0_pay550, k0_pay551, k0_pay552, k0_pay553,
    k0_pay554, k0_pay555, k0_pay556, k0_pay557, k0_pay558, k0_pay559, k0_pay560, k0_pay561, k0_pay562,
    k0_pay563, k0_pay564, k0_pay565, k0_pay566, k0_pay567, k0_pay568, k0_pay569, k0_pay570, k0_pay571,
    k0_pay572, k0_pay573, k0_pay574, k0_pay575, k0_pay576, k0_pay577, k0_pay578, k0_pay579, k0_pay580,
    k0_pay581, k0_pay582, k0_pay583, k0_pay584, k0_pay585, k0_pay586, k0_pay587, k0_pay588, k0_pay589,
    k0_pay590, k0_pay591, k0_pay592, k0_pay593,
    View.readAt_eq_ld, harg1.read_unread, harg7.read_unread, harg8.read_unread, shapeCast_self]
  refine View.PiecesOf.mem ?_
  exact ⟨fun y => spl_piece xs1 xs0 x0 inb_S1024x1024_S256x1024_768_0 inb_S2x1024_S1x1024_0_0 inb_S2x1024_S1x1024_1_0 inb_S16x2x1024_S8x2x1024_0_0_0 inb_S16x2x1024_S8x2x1024_8_0_0 y,
    fun y => spl_piece xs1 xs0 x0 inb_S1024x1024_S256x1024_512_0 inb_S2x1024_S1x1024_0_0 inb_S2x1024_S1x1024_1_0 inb_S16x2x1024_S8x2x1024_0_0_0 inb_S16x2x1024_S8x2x1024_8_0_0 y,
    fun y => spl_piece xs1 xs0 x0 inb_S1024x1024_S256x1024_256_0 inb_S2x1024_S1x1024_0_0 inb_S2x1024_S1x1024_1_0 inb_S16x2x1024_S8x2x1024_0_0_0 inb_S16x2x1024_S8x2x1024_8_0_0 y,
    fun y => spl_piece xs1 xs0 x0 inb_S1024x1024_S256x1024_0_0 inb_S2x1024_S1x1024_0_0 inb_S2x1024_S1x1024_1_0 inb_S16x2x1024_S8x2x1024_0_0_0 inb_S16x2x1024_S8x2x1024_8_0_0 y, trivial⟩

/-- The inputs in the narrow format. -/
def xV (x : FVec Ideal S1024x1024 .f32) : FVec Ideal S1024x1024 .bf16 := truncf .bf16 x bitsLt_bf16_f32

/-- The stored block of inputs, in the narrow format. -/
theorem x_canon_B (c : Dev nD) (arg1 : Memref sig .tc .vmem S1024x1024 .f32) (harg1 : arg1.IsWhole) (x0 : Vec Ideal S1024x1024 .f32)
    (y : S1024x1024.Idx) (hy : ∃ p ∈ kernelRun0_B.sl.HS3_4 c arg1 harg1 x0, y ∈ p.1.set) :
    View.canon (kernelRun0_B.sl.HS3_4 c arg1 harg1 x0) y = xV x0 y := by
  refine View.canon_apply_of_pieces (xV x0) _ ?_ y hy
  unfold kernelRun0_B.sl.HS3_4
  simp (disch := decide) only [kernelRun0_B.sl.r_43, kernelRun0_B.sl.r_28, kernelRun0_B.sl.r_18, kernelRun0_B.sl.r_2, k0_pay526, k0_pay528, k0_pay546, k0_pay559, k0_pay577, k0_pay545, k0_pay558, k0_pay576, k0_pay593,
    View.readAt_eq_ld, harg1.read_unread, shapeCast_self]
  refine View.PiecesOf.mem ?_
  exact ⟨fun y => rfl, fun y => rfl, fun y => rfl, fun y => rfl, trivial⟩

/-- The stored block of inputs, in the narrow format. -/
theorem x_canon_A (c : Dev nD) (arg1 : Memref sig .tc .vmem S1024x1024 .f32) (harg1 : arg1.IsWhole) (x0 : Vec Ideal S1024x1024 .f32)
    (y : S1024x1024.Idx) (hy : ∃ p ∈ kernelRun0_A.sl.HS3_4 c arg1 harg1 x0, y ∈ p.1.set) :
    View.canon (kernelRun0_A.sl.HS3_4 c arg1 harg1 x0) y = xV x0 y := by
  refine View.canon_apply_of_pieces (xV x0) _ ?_ y hy
  unfold kernelRun0_A.sl.HS3_4
  simp (disch := decide) only [kernelRun0_A.sl.r_334, kernelRun0_A.sl.r_319, kernelRun0_A.sl.r_309, kernelRun0_A.sl.r_293, k0_pay526, k0_pay528, k0_pay546, k0_pay559, k0_pay577, k0_pay545, k0_pay558, k0_pay576, k0_pay593,
    View.readAt_eq_ld, harg1.read_unread, shapeCast_self]
  refine View.PiecesOf.mem ?_
  exact ⟨fun y => rfl, fun y => rfl, fun y => rfl, fun y => rfl, trivial⟩

/-- A block of results: the spline values times the projection, plus the inputs times the residual weights, plus the bias. -/
def blockV (aff : FVec Ideal S2x1024 .f32) (tab : FVec Ideal S16x2x1024 .bf16) (x : FVec Ideal S1024x1024 .f32)
    (wp wr : FVec Ideal S1024x1024 .bf16) (b : FVec Ideal S1x1024 .f32) : FVec Ideal S1024x1024 .f32 :=
  k0_pay1 (k0_pay594 (splV aff tab x) wp (xV x) wr) (k0_pay595 b)

/-- A zero offset, as a constant function. -/
theorem hz2 : (![0, 0] : Fin 2 → Nat) = fun _ => 0 := funext fun a => by fin_cases a <;> rfl

/-- What a later step loads for its first product: the spline values of its inputs. -/
theorem spl_load_B (c : Dev nD) (arg1 : Memref sig .tc .vmem S1024x1024 .f32) (harg1 : arg1.IsWhole)
    (arg7 : Memref sig .tc .vmem S16x2x1024 .bf16) (harg7 : arg7.IsWhole) (arg8 : Memref sig .tc .vmem S2x1024 .f32) (harg8 : arg8.IsWhole)
    (arg9 : Memref sig .tc .vmem S1024x1024 .bf16) (x0 : Vec Ideal S1024x1024 .f32) (xs0 : Vec Ideal S16x2x1024 .bf16) (xs1 : Vec Ideal S2x1024 .f32) :
    kernelRun0_B.sl.v437 c arg1 harg1 arg7 harg7 arg8 harg8 arg9 x0 xs0 xs1 = splV xs1 xs0 x0 := by
  unfold kernelRun0_B.sl.v437
  have hc : ∀ y, ∃ p ∈ kernelRun0_B.sl.HS2_4 c arg1 harg1 arg7 harg7 arg8 harg8 x0 xs0 xs1, y ∈ p.1.set :=
    fun y => View.cover_of_tiledL (kernelRun0_B.sl.HS2_4 c arg1 harg1 arg7 harg7 arg8 harg8 x0 xs0 xs1) S256x1024.size (by sl_kernel_rfl) y
  rw [View.readCov_eq_canon_ld _ _ _ hc, View.ld_unit_zero hz2]
  exact funext fun y => spl_canon_B c arg1 harg1 arg7 harg7 arg8 harg8 x0 xs0 xs1 y (hc y)

/-- What a later step loads for its second product: its inputs. -/
theorem x_load_B (c : Dev nD) (arg1 : Memref sig .tc .vmem S1024x1024 .f32) (harg1 : arg1.IsWhole)
    (arg10 : Memref sig .tc .vmem S1024x1024 .bf16) (x0 : Vec Ideal S1024x1024 .f32) :
    kernelRun0_B.sl.v441 c arg1 harg1 arg10 x0 = xV x0 := by
  unfold kernelRun0_B.sl.v441
  have hc : ∀ y, ∃ p ∈ kernelRun0_B.sl.HS3_4 c arg1 harg1 x0, y ∈ p.1.set :=
    fun y => View.cover_of_tiledL (kernelRun0_B.sl.HS3_4 c arg1 harg1 x0) S256x1024.size (by sl_kernel_rfl) y
  rw [View.readCov_eq_canon_ld _ _ _ hc, View.ld_unit_zero hz2]
  exact funext fun y => x_canon_B c arg1 harg1 x0 y (hc y)

/-- What a later step leaves in the output block. -/
theorem out_B (c : Dev nD) (i : grid0.Coords)
    (arg1 : Memref sig .tc .vmem S1024x1024 .f32) (harg1 : arg1.IsWhole) (arg2 : Memref sig .tc .vmem S40x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S16x2x1024 .bf16) (harg7 : arg7.IsWhole) (arg8 : Memref sig .tc .vmem S2x1024 .f32) (harg8 : arg8.IsWhole)
    (arg9 : Memref sig .tc .vmem S1024x1024 .bf16) (harg9 : arg9.IsWhole) (arg10 : Memref sig .tc .vmem S1024x1024 .bf16) (harg10 : arg10.IsWhole)
    (hc0 : ¬cond0_0 i) (x0 : Vec Ideal S1024x1024 .f32) (x1 : Vec Ideal S40x1024 .f32) (x2 x3 : Vec Ideal S1024x1024 .bf16) (x4 : Vec Ideal S1x1024 .f32)
    (xs0 : Vec Ideal S16x2x1024 .bf16) (xs1 : Vec Ideal S2x1024 .f32) :
    out0_B_5 c i arg1 harg1 arg2 harg2 arg3 harg3 arg4 harg4 arg5 harg5 arg6 harg6 arg7 harg7 arg8 harg8 arg9 harg9 arg10 harg10 hc0 x0 x1 x2 x3 x4 xs0 xs1 = blockV xs1 xs0 x0 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xs0 xs1)]
  unfold kernelRun0_B
  dsimp only
  rw [View.canon_unit_zero hz2]
  unfold kernelRun0_B.sl.r_57 kernelRun0_B.sl.r_58
  rw [spl_load_B, x_load_B]
  rw [View.readAt_eq_ld, View.readAt_eq_ld, View.readAt_eq_ld, harg3.read_unread, harg4.read_unread, harg5.read_unread,
    View.ld_unit_zero hz2, View.ld_unit_zero hz2, View.ld_unit_zero hz2]
  rfl

/-- The first step's stores cover the whole segment table. -/
theorem tab_cover (c : Dev nD) (arg2 : Memref sig .tc .vmem S40x1024 .f32) (harg2 : arg2.IsWhole) (x1 : Vec Ideal S40x1024 .f32) (y : S16x2x1024.Idx) :
    ∃ p ∈ kernelRun0_A.sl.HS0_16 c arg2 harg2 x1, y ∈ p.1.set :=
  View.cover_of_tiledL (kernelRun0_A.sl.HS0_16 c arg2 harg2 x1) S1x2x1024.size (by sl_kernel_rfl) y

/-- The first step's stores cover both affine rows. -/
theorem aff_cover (c : Dev nD) (arg2 : Memref sig .tc .vmem S40x1024 .f32) (harg2 : arg2.IsWhole) (x1 : Vec Ideal S40x1024 .f32) (y : S2x1024.Idx) :
    ∃ p ∈ kernelRun0_A.sl.HS1_2 c arg2 harg2 x1, y ∈ p.1.set :=
  View.cover_of_tiledL (kernelRun0_A.sl.HS1_2 c arg2 harg2 x1) S1x1024.size (by sl_kernel_rfl) y

/-- What the first step's stores leave in the segment table. -/
theorem tab_canon' (c : Dev nD) (arg2 : Memref sig .tc .vmem S40x1024 .f32) (harg2 : arg2.IsWhole) (x1 : Vec Ideal S40x1024 .f32) :
    View.canon (kernelRun0_A.sl.HS0_16 c arg2 harg2 x1) = tabV x1 :=
  funext fun y => tab_canon c arg2 harg2 x1 y (tab_cover c arg2 harg2 x1 y)

/-- What the first step's stores leave in the affine rows. -/
theorem aff_canon' (c : Dev nD) (arg2 : Memref sig .tc .vmem S40x1024 .f32) (harg2 : arg2.IsWhole) (x1 : Vec Ideal S40x1024 .f32) :
    View.canon (kernelRun0_A.sl.HS1_2 c arg2 harg2 x1) = affV x1 :=
  funext fun y => aff_canon c arg2 harg2 x1 y (aff_cover c arg2 harg2 x1 y)

/-- The first step reads the lower eight rows of the segment table it has just stored. -/
theorem tab_lo_load (c : Dev nD) (arg2 : Memref sig .tc .vmem S40x1024 .f32) (harg2 : arg2.IsWhole) (arg7 : Memref sig .tc .vmem S16x2x1024 .bf16) (x1 : Vec Ideal S40x1024 .f32) :
    kernelRun0_A.sl.v21_raw c arg2 harg2 arg7 x1 = View.ld (Val := Elt Ideal) (e' := .bf16) (S := S16x2x1024) (tabV x1)
      (Rect.unit (s := S16x2x1024) ![0, 0, 0] S8x2x1024.size inb_S16x2x1024_S8x2x1024_0_0_0) := by
  unfold kernelRun0_A.sl.v21_raw
  rw [View.readCov_eq_canon_ld _ _ _ (tab_cover c arg2 harg2 x1), tab_canon']

/-- The first step reads the upper eight rows of the segment table it has just stored. -/
theorem tab_hi_load (c : Dev nD) (arg2 : Memref sig .tc .vmem S40x1024 .f32) (harg2 : arg2.IsWhole) (arg7 : Memref sig .tc .vmem S16x2x1024 .bf16) (x1 : Vec Ideal S40x1024 .f32) :
    kernelRun0_A.sl.v22_raw c arg2 harg2 arg7 x1 = View.ld (Val := Elt Ideal) (e' := .bf16) (S := S16x2x1024) (tabV x1)
      (Rect.unit (s := S16x2x1024) ![8, 0, 0] S8x2x1024.size inb_S16x2x1024_S8x2x1024_8_0_0) := by
  unfold kernelRun0_A.sl.v22_raw
  rw [View.readCov_eq_canon_ld _ _ _ (tab_cover c arg2 harg2 x1), tab_canon']

/-- The first step reads the scale row it has just stored. -/
theorem scale_load (c : Dev nD) (arg2 : Memref sig .tc .vmem S40x1024 .f32) (harg2 : arg2.IsWhole) (arg8 : Memref sig .tc .vmem S2x1024 .f32) (x1 : Vec Ideal S40x1024 .f32) :
    kernelRun0_A.sl.v3 c arg2 harg2 arg8 x1 = View.ld (Val := Elt Ideal) (e' := .f32) (S := S2x1024) (affV x1)
      (Rect.unit (s := S2x1024) ![0, 0] S1x1024.size inb_S2x1024_S1x1024_0_0) := by
  unfold kernelRun0_A.sl.v3
  rw [View.readCov_eq_canon_ld _ _ _ (aff_cover c arg2 harg2 x1), aff_canon']

/-- The first step reads the shift row it has just stored. -/
theorem shift_load (c : Dev nD) (arg2 : Memref sig .tc .vmem S40x1024 .f32) (harg2 : arg2.IsWhole) (arg8 : Memref sig .tc .vmem S2x1024 .f32) (x1 : Vec Ideal S40x1024 .f32) :
    kernelRun0_A.sl.v4 c arg2 harg2 arg8 x1 = View.ld (Val := Elt Ideal) (e' := .f32) (S := S2x1024) (affV x1)
      (Rect.unit (s := S2x1024) ![1, 0] S1x1024.size inb_S2x1024_S1x1024_1_0) := by
  unfold kernelRun0_A.sl.v4
  rw [View.readCov_eq_canon_ld _ _ _ (aff_cover c arg2 harg2 x1), aff_canon']

set_option maxHeartbeats 4000000 in
/-- At the first step, the stored block of spline values. -/
theorem spl_canon_A (c : Dev nD) (arg1 : Memref sig .tc .vmem S1024x1024 .f32) (harg1 : arg1.IsWhole)
    (arg2 : Memref sig .tc .vmem S40x1024 .f32) (harg2 : arg2.IsWhole)
    (arg7 : Memref sig .tc .vmem S16x2x1024 .bf16) (arg8 : Memref sig .tc .vmem S2x1024 .f32)
    (x0 : Vec Ideal S1024x1024 .f32) (x1 : Vec Ideal S40x1024 .f32)
    (y : S1024x1024.Idx) (hy : ∃ p ∈ kernelRun0_A.sl.HS2_4 c arg1 harg1 arg2 harg2 arg7 arg8 x0 x1, y ∈ p.1.set) :
    View.canon (kernelRun0_A.sl.HS2_4 c arg1 harg1 arg2 harg2 arg7 arg8 x0 x1) y = splV (affV x1) (tabV x1) x0 y := by
  refine View.canon_apply_of_pieces (splV (affV x1) (tabV x1) x0) _ ?_ y hy
  unfold kernelRun0_A.sl.HS2_4
  simp (disch := decide) only [kernelRun0_A.sl.r_293, kernelRun0_A.sl.r_294, kernelRun0_A.sl.r_295, kernelRun0_A.sl.r_296,
    kernelRun0_A.sl.r_297, kernelRun0_A.sl.r_298, kernelRun0_A.sl.r_299, kernelRun0_A.sl.r_300,
    kernelRun0_A.sl.r_301, kernelRun0_A.sl.r_302, kernelRun0_A.sl.r_303, kernelRun0_A.sl.r_304,
    kernelRun0_A.sl.r_305, kernelRun0_A.sl.r_306, kernelRun0_A.sl.r_307, kernelRun0_A.sl.r_308,
    kernelRun0_A.sl.r_309, kernelRun0_A.sl.r_310, kernelRun0_A.sl.r_311, kernelRun0_A.sl.r_312,
    kernelRun0_A.sl.r_313, kernelRun0_A.sl.r_314, kernelRun0_A.sl.r_315, kernelRun0_A.sl.r_316,
    kernelRun0_A.sl.r_317, kernelRun0_A.sl.r_318, kernelRun0_A.sl.r_319, kernelRun0_A.sl.r_320,
    kernelRun0_A.sl.r_321, kernelRun0_A.sl.r_322, kernelRun0_A.sl.r_323, kernelRun0_A.sl.r_324,
    kernelRun0_A.sl.r_325, kernelRun0_A.sl.r_326, kernelRun0_A.sl.r_327, kernelRun0_A.sl.r_328,
    kernelRun0_A.sl.r_329, kernelRun0_A.sl.r_330, kernelRun0_A.sl.r_331, kernelRun0_A.sl.r_332,
    kernelRun0_A.sl.r_333, kernelRun0_A.sl.r_334, kernelRun0_A.sl.r_335, kernelRun0_A.sl.r_336,
    kernelRun0_A.sl.r_337, kernelRun0_A.sl.r_338, kernelRun0_A.sl.r_339, kernelRun0_A.sl.r_340,
    kernelRun0_A.sl.r_341, kernelRun0_A.sl.r_342, kernelRun0_A.sl.r_343, kernelRun0_A.sl.r_344,
    kernelRun0_A.sl.r_345, kernelRun0_A.sl.r_346, kernelRun0_A.sl.r_347,
    k0_pay526, k0_pay527, k0_pay528, k0_pay529, k0_pay530, k0_pay531, k0_pay532, k0_pay533, k0_pay534, k0_pay535,
    k0_pay536, k0_pay537, k0_pay538, k0_pay539, k0_pay540, k0_pay541, k0_pay542, k0_pay543, k0_pay544,
    k0_pay545, k0_pay546, k0_pay547, k0_pay548, k0_pay549, k0_pay550, k0_pay551, k0_pay552, k0_pay553,
    k0_pay554, k0_pay555, k0_pay556, k0_pay557, k0_pay558, k0_pay559, k0_pay560, k0_pay561, k0_pay562,
    k0_pay563, k0_pay564, k0_pay565, k0_pay566, k0_pay567, k0_pay568, k0_pay569, k0_pay570, k0_pay571,
    k0_pay572, k0_pay573, k0_pay574, k0_pay575, k0_pay576, k0_pay577, k0_pay578, k0_pay579, k0_pay580,
    k0_pay581, k0_pay582, k0_pay583, k0_pay584, k0_pay585, k0_pay586, k0_pay587, k0_pay588, k0_pay589,
    k0_pay590, k0_pay591, k0_pay592, k0_pay593,
    View.readAt_eq_ld, harg1.read_unread, tab_lo_load, tab_hi_load, scale_load, shift_load, shapeCast_self]
  refine View.PiecesOf.mem ?_
  exact ⟨fun y => spl_piece (affV x1) (tabV x1) x0 inb_S1024x1024_S256x1024_768_0 inb_S2x1024_S1x1024_0_0 inb_S2x1024_S1x1024_1_0
      inb_S16x2x1024_S8x2x1024_0_0_0 inb_S16x2x1024_S8x2x1024_8_0_0 y,
    fun y => spl_piece (affV x1) (tabV x1) x0 inb_S1024x1024_S256x1024_512_0 inb_S2x1024_S1x1024_0_0 inb_S2x1024_S1x1024_1_0
      inb_S16x2x1024_S8x2x1024_0_0_0 inb_S16x2x1024_S8x2x1024_8_0_0 y,
    fun y => spl_piece (affV x1) (tabV x1) x0 inb_S1024x1024_S256x1024_256_0 inb_S2x1024_S1x1024_0_0 inb_S2x1024_S1x1024_1_0
      inb_S16x2x1024_S8x2x1024_0_0_0 inb_S16x2x1024_S8x2x1024_8_0_0 y,
    fun y => spl_piece (affV x1) (tabV x1) x0 inb_S1024x1024_S256x1024_0_0 inb_S2x1024_S1x1024_0_0 inb_S2x1024_S1x1024_1_0
      inb_S16x2x1024_S8x2x1024_0_0_0 inb_S16x2x1024_S8x2x1024_8_0_0 y, trivial⟩

/-- What the first step loads for its first product: the spline values of its inputs over the tables it built. -/
theorem spl_load_A (c : Dev nD) (arg1 : Memref sig .tc .vmem S1024x1024 .f32) (harg1 : arg1.IsWhole)
    (arg2 : Memref sig .tc .vmem S40x1024 .f32) (harg2 : arg2.IsWhole)
    (arg7 : Memref sig .tc .vmem S16x2x1024 .bf16) (arg8 : Memref sig .tc .vmem S2x1024 .f32)
    (arg9 : Memref sig .tc .vmem S1024x1024 .bf16) (x0 : Vec Ideal S1024x1024 .f32) (x1 : Vec Ideal S40x1024 .f32) :
    kernelRun0_A.sl.v437 c arg1 harg1 arg2 harg2 arg7 arg8 arg9 x0 x1 = splV (affV x1) (tabV x1) x0 := by
  unfold kernelRun0_A.sl.v437
  have hc : ∀ y, ∃ p ∈ kernelRun0_A.sl.HS2_4 c arg1 harg1 arg2 harg2 arg7 arg8 x0 x1, y ∈ p.1.set :=
    fun y => View.cover_of_tiledL (kernelRun0_A.sl.HS2_4 c arg1 harg1 arg2 harg2 arg7 arg8 x0 x1) S256x1024.size (by sl_kernel_rfl) y
  rw [View.readCov_eq_canon_ld _ _ _ hc, View.ld_unit_zero hz2]
  exact funext fun y => spl_canon_A c arg1 harg1 arg2 harg2 arg7 arg8 x0 x1 y (hc y)

/-- What the first step loads for its second product: its inputs. -/
theorem x_load_A (c : Dev nD) (arg1 : Memref sig .tc .vmem S1024x1024 .f32) (harg1 : arg1.IsWhole)
    (arg10 : Memref sig .tc .vmem S1024x1024 .bf16) (x0 : Vec Ideal S1024x1024 .f32) :
    kernelRun0_A.sl.v441 c arg1 harg1 arg10 x0 = xV x0 := by
  unfold kernelRun0_A.sl.v441
  have hc : ∀ y, ∃ p ∈ kernelRun0_A.sl.HS3_4 c arg1 harg1 x0, y ∈ p.1.set :=
    fun y => View.cover_of_tiledL (kernelRun0_A.sl.HS3_4 c arg1 harg1 x0) S256x1024.size (by sl_kernel_rfl) y
  rw [View.readCov_eq_canon_ld _ _ _ hc, View.ld_unit_zero hz2]
  exact funext fun y => x_canon_A c arg1 harg1 x0 y (hc y)

/-- What the first step leaves in the output block. -/
theorem out_A (c : Dev nD) (i : grid0.Coords)
    (arg1 : Memref sig .tc .vmem S1024x1024 .f32) (harg1 : arg1.IsWhole) (arg2 : Memref sig .tc .vmem S40x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S16x2x1024 .bf16) (harg7 : arg7.IsWhole) (arg8 : Memref sig .tc .vmem S2x1024 .f32) (harg8 : arg8.IsWhole)
    (arg9 : Memref sig .tc .vmem S1024x1024 .bf16) (harg9 : arg9.IsWhole) (arg10 : Memref sig .tc .vmem S1024x1024 .bf16) (harg10 : arg10.IsWhole)
    (hc0 : cond0_0 i) (x0 : Vec Ideal S1024x1024 .f32) (x1 : Vec Ideal S40x1024 .f32) (x2 x3 : Vec Ideal S1024x1024 .bf16) (x4 : Vec Ideal S1x1024 .f32) :
    out0_A_5 c i arg1 harg1 arg2 harg2 arg3 harg3 arg4 harg4 arg5 harg5 arg6 harg6 arg7 harg7 arg8 harg8 arg9 harg9 arg10 harg10 hc0 x0 x1 x2 x3 x4 = blockV (affV x1) (tabV x1) x0 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  rw [View.canon_unit_zero hz2]
  unfold kernelRun0_A.sl.r_348 kernelRun0_A.sl.r_349
  rw [spl_load_A, x_load_A]
  rw [View.readAt_eq_ld, View.readAt_eq_ld, View.readAt_eq_ld, harg3.read_unread, harg4.read_unread, harg5.read_unread,
    View.ld_unit_zero hz2, View.ld_unit_zero hz2, View.ld_unit_zero hz2]
  rfl

/-- The segment table the first step leaves. -/
theorem sout_A_0 (c : Dev nD) (i : grid0.Coords)
    (arg1 : Memref sig .tc .vmem S1024x1024 .f32) (harg1 : arg1.IsWhole) (arg2 : Memref sig .tc .vmem S40x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S16x2x1024 .bf16) (harg7 : arg7.IsWhole) (arg8 : Memref sig .tc .vmem S2x1024 .f32) (harg8 : arg8.IsWhole)
    (arg9 : Memref sig .tc .vmem S1024x1024 .bf16) (harg9 : arg9.IsWhole) (arg10 : Memref sig .tc .vmem S1024x1024 .bf16) (harg10 : arg10.IsWhole)
    (hc0 : cond0_0 i) (x0 : Vec Ideal S1024x1024 .f32) (x1 : Vec Ideal S40x1024 .f32) (x2 x3 : Vec Ideal S1024x1024 .bf16) (x4 : Vec Ideal S1x1024 .f32) :
    sout0_A_0 c i arg1 harg1 arg2 harg2 arg3 harg3 arg4 harg4 arg5 harg5 arg6 harg6 arg7 harg7 arg8 harg8 arg9 harg9 arg10 harg10 hc0 x0 x1 x2 x3 x4 = tabV x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4)]
  exact tab_canon' c arg2 harg2 x1

/-- The affine rows the first step leaves. -/
theorem sout_A_1 (c : Dev nD) (i : grid0.Coords)
    (arg1 : Memref sig .tc .vmem S1024x1024 .f32) (harg1 : arg1.IsWhole) (arg2 : Memref sig .tc .vmem S40x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S16x2x1024 .bf16) (harg7 : arg7.IsWhole) (arg8 : Memref sig .tc .vmem S2x1024 .f32) (harg8 : arg8.IsWhole)
    (arg9 : Memref sig .tc .vmem S1024x1024 .bf16) (harg9 : arg9.IsWhole) (arg10 : Memref sig .tc .vmem S1024x1024 .bf16) (harg10 : arg10.IsWhole)
    (hc0 : cond0_0 i) (x0 : Vec Ideal S1024x1024 .f32) (x1 : Vec Ideal S40x1024 .f32) (x2 x3 : Vec Ideal S1024x1024 .bf16) (x4 : Vec Ideal S1x1024 .f32) :
    sout0_A_1 c i arg1 harg1 arg2 harg2 arg3 harg3 arg4 harg4 arg5 harg5 arg6 harg6 arg7 harg7 arg8 harg8 arg9 harg9 arg10 harg10 hc0 x0 x1 x2 x3 x4 = affV x1 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4)]
  exact aff_canon' c arg2 harg2 x1

end Cert.KernelIdeal.Tables
-- ==== Proof.Carried.lean ====
module

public import proofs.«01_k».proof.Proof.Block
public import proofs.«01_k».proof.Proof.Gen.KernelIdeal.Value

/-!
The contents the grid leaves. The first step builds the tables and every later step keeps them; each step's
output block is then the block formula over the tables of the raw operand, and each input block is read back
to the arguments of the program.
-/

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

variable (m : (ℓ : Loc nD τ sig) → Buf (Elt Ideal) ℓ)

/-- The windows' blocks: the input and output rows move with the step, everything else stays. -/
theorem idx : ∀ t : Fin grid0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = 0 ∧ win0_3.index t 1 = 0
      ∧ win0_4.index t 0 = 0 ∧ win0_4.index t 1 = 0 := by
  decide +kernel

/-- The raw operand does not depend on the step. -/
theorem raw_const (c : Dev nD) (t t' : Fin cfg0.N) : (iblk m c 1 t : Vec Ideal S40x1024 .f32) = iblk m c 1 t' := by
  funext y
  blk_ext [iblk, V, idx t, idx t']

/-- What step `n` leaves: the block formula, and the two tables of the raw operand. -/
theorem outs_eq (c : Dev nD) (t0 : Fin cfg0.N) : ∀ (n : ℕ) (hn : n < cfg0.N), outsAt0 m c n hn
    = (blockV (affV (iblk m c 1 t0)) (tabV (iblk m c 1 t0)) (iblk m c 0 ⟨n, hn⟩) (iblk m c 2 ⟨n, hn⟩)
        (iblk m c 3 ⟨n, hn⟩) (iblk m c 4 ⟨n, hn⟩), tabV (iblk m c 1 t0), affV (iblk m c 1 t0)) := by
  intro n
  induction n with
  | zero =>
    intro hn
    rw [outsAt0_A m c ⟨0, hn⟩ (Nat.zero_mod _), out_A, sout_A_0, sout_A_1, raw_const m c ⟨0, hn⟩ t0]
  | succ k ih =>
    intro hn
    have hN : cfg0.N = 16 := N_0
    have h0 : ¬ (⟨k + 1, hn⟩ : Fin cfg0.N).val % 16 = 0 := by
      show ¬ (k + 1) % 16 = 0
      omega
    have e := ih (Nat.lt_of_succ_lt hn)
    rw [outsAt0_B m c ⟨k + 1, hn⟩ h0, out_B]
    have e' : outsAt0 m c ((⟨k + 1, hn⟩ : Fin cfg0.N).val - 1)
        (Nat.lt_of_le_of_lt (Nat.sub_le _ _) (⟨k + 1, hn⟩ : Fin cfg0.N).isLt) = _ := e
    rw [e']
    rfl

/-- The input rows of a step. -/
theorem x_blk (c : Dev nD) (t : Fin cfg0.N) (r : Fin 1024) (f : Fin 1024) (R : Fin 16384) (hR : R.val = 1024 * t.val + r.val) :
    (iblk m c 0 t : Vec Ideal S1024x1024 .f32) (ix2 r f)
      = (shapeCast S16384x1024 (m ((c : Thread nD τ).loc main_arg0) : FVec Ideal S4x4096x1024 .f32)
          shapeCasts_S4x4096x1024_S16384x1024 : FVec Ideal S16384x1024 .f32) (ix2 R f) := by
  blk_simp [iblk, idx t]
  entry_read
  refine congrArg (shapeCast S16384x1024 (m ((c : Thread nD τ).loc main_arg0) : FVec Ideal S4x4096x1024 .f32)
          shapeCasts_S4x4096x1024_S16384x1024 : FVec Ideal S16384x1024 .f32) ?_
  funext a
  apply Fin.ext
  match a with
  | ⟨0, _⟩ =>
    have h := (idx t).1
    show win0_0.index t 0 * 1024 + 1 * r.val = R.val
    omega
  | ⟨1, _⟩ =>
    have h := (idx t).2.1
    show win0_0.index t 1 * 1024 + 1 * f.val = f.val
    omega

/-- The projection weights of a step: the argument, transposed. -/
theorem wp_blk (c : Dev nD) (t : Fin cfg0.N) (k o : Fin 1024) :
    (iblk m c 2 t : Vec Ideal S1024x1024 .bf16) (ix2 k o) = m ((c : Thread nD τ).loc main_arg5) (ix2 o k) := by
  blk_ext! [iblk, V, idx t]

/-- The residual weights of a step: the argument, transposed. -/
theorem wr_blk (c : Dev nD) (t : Fin cfg0.N) (k o : Fin 1024) :
    (iblk m c 3 t : Vec Ideal S1024x1024 .bf16) (ix2 k o) = m ((c : Thread nD τ).loc main_arg7) (ix2 o k) := by
  blk_ext! [iblk, V, idx t]

/-- The bias of a step. -/
theorem b_blk (c : Dev nD) (t : Fin cfg0.N) (z : Fin 1) (o : Fin 1024) :
    (iblk m c 4 t : Vec Ideal S1x1024 .f32) (ix2 z o) = m ((c : Thread nD τ).loc main_arg6) (ix1 o) := by
  blk_ext! [iblk, V, idx t]

end Cert.KernelIdeal.Tables
-- ==== Proof.Raw.lean ====
module

public import proofs.«01_k».proof.Proof.Rows
public import proofs.«01_k».proof.Proof.Gen.KernelIdeal.Value
public import Idealize.ShloMosaic.Lib.StableHlo.ReadAt

/-!
The contents the grid leaves. The first step builds the tables and every later step keeps them; each step's
output block is then the block formula over the tables of the raw operand, and each input block is read back
to the arguments of the program.
-/

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

variable (m : (ℓ : Loc nD τ sig) → Buf (Elt Ideal) ℓ)

/-- The raw operand: the three knot tables side by side with four idle columns, transposed. -/
def rawV (a1 a2 a4 : FVec Ideal S1024x12 .f32) : FVec Ideal S40x1024 .f32 :=
  transpose S40x1024 [1, 0] (concatenate S1024x40 1 [⟨S1024x12, a1⟩, ⟨S1024x12, a2⟩, ⟨S1024x12, a4⟩,
      ⟨S1024x4, (broadcastInDim S1024x4 ![] bcast_S_S1024x4 (constant S_ .f32 0x00000000#32) : FVec Ideal S1024x4 .f32)⟩]
      concatenates_S1024x12_S1024x12_S1024x12_S1024x4_S1024x40_d1) transposes_S1024x40_S40x1024_1_0

set_option maxHeartbeats 4000000 in
/-- The raw operand, as the launch finds it, is the stacked and transposed arguments. -/
theorem raw_entry (c : Dev nD) : V m c main_v2 = rawV (m ((c : Thread nD τ).loc main_arg1))
    (m ((c : Thread nD τ).loc main_arg2)) (m ((c : Thread nD τ).loc main_arg4)) := by
  show StableHlo.after hostOps0 (fun b => m (c, b)) main_v2 = _
  unfold hostOps0
  after_reads_simp
  rfl

/-- The first twelve rows are the knot positions. -/
theorem raw_cell0 (a1 a2 a4 : FVec Ideal S1024x12 .f32) (p : Fin 12) (f : Fin 1024) :
    cell (rawV a1 a2 a4) 0 p f = a1 (ix2 f p) := by
  show rawV a1 a2 a4 (ix2 ⟨12 * 0 + p.val, _⟩ f) = _
  pointwise [rawV]

/-- The next twelve rows are the coefficients. -/
theorem raw_cell1 (a1 a2 a4 : FVec Ideal S1024x12 .f32) (p : Fin 12) (f : Fin 1024) :
    cell (rawV a1 a2 a4) 1 p f = a2 (ix2 f p) := by
  show rawV a1 a2 a4 (ix2 ⟨12 * 1 + p.val, _⟩ f) = _
  pointwise [rawV]

/-- The last twelve used rows are the aliveness logits. -/
theorem raw_cell2 (a1 a2 a4 : FVec Ideal S1024x12 .f32) (p : Fin 12) (f : Fin 1024) :
    cell (rawV a1 a2 a4) 2 p f = a4 (ix2 f p) := by
  show rawV a1 a2 a4 (ix2 ⟨12 * 2 + p.val, _⟩ f) = _
  pointwise [rawV]
  rw [dif_neg (by omega), dif_neg (by omega), dif_pos (by omega)]
  refine congrArg a4 (congrArg (ix2 f) (Fin.ext ?_))
  show 12 * 2 + p.val - 12 - 12 = p.val
  omega

end Cert.KernelIdeal.Tables
-- ==== Proof.KernelOut.lean ====
module

public import proofs.«01_k».proof.Proof.Carried
public import proofs.«01_k».proof.Proof.Raw

/-!
The kernel's result at an index: the block formula read out, over the tables of the raw operand.
-/

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort

variable (m : (ℓ : Loc nD τ sig) → Buf (Elt Ideal) ℓ)

/-- The raw operand of a step: the stacked arguments. -/
theorem raw_blk (c : Dev nD) (t : Fin cfg0.N) : (iblk m c 1 t : FVec Ideal S40x1024 .f32)
    = rawV (m ((c : Thread nD τ).loc main_arg1)) (m ((c : Thread nD τ).loc main_arg2)) (m ((c : Thread nD τ).loc main_arg4)) := by
  rw [← raw_entry m c]
  funext y
  blk_simp [iblk, idx t]
  refine congrArg (V m c main_v2) ?_
  funext a
  apply Fin.ext
  match a with
  | ⟨0, _⟩ =>
    have h := (idx t).2.2.1
    show win0_1.index t 0 * 40 + 1 * (y 0).val = (y 0).val
    omega
  | ⟨1, _⟩ =>
    have h := (idx t).2.2.2.1
    show win0_1.index t 1 * 1024 + 1 * (y 1).val = (y 1).val
    omega

/-- The block formula at an index. -/
theorem blockV_apply (aff : FVec Ideal S2x1024 .f32) (tab : FVec Ideal S16x2x1024 .bf16) (x : FVec Ideal S1024x1024 .f32)
    (wp wr : FVec Ideal S1024x1024 .bf16) (b : FVec Ideal S1x1024 .f32) (r o : Fin 1024) :
    blockV aff tab x wp wr b (ix2 r o)
      = (((∑ k : Fin 1024, splV aff tab x (ix2 r k) * wp (ix2 k o)) + ∑ k : Fin 1024, x (ix2 r k) * wr (ix2 k o))
          + b (ix2 0 o) : EReal) := by
  pointwise [blockV, k0_pay1, k0_pay594, k0_pay595, xV]

/-- The kernel's result array at an index, from the block its step leaves. -/
theorem G5_apply (c : Dev nD) (i : Fin 16384) (o : Fin 1024) (t : Fin cfg0.N) (r : Fin 1024)
    (hi : i.val = 1024 * t.val + r.val) :
    (Value.G5 m c : FVec Ideal S16384x1024 .f32) (ix2 i o)
      = blockV (affV (iblk m c 1 t)) (tabV (iblk m c 1 t)) (iblk m c 0 t) (iblk m c 2 t) (iblk m c 3 t) (iblk m c 4 t) (ix2 r o) := by
  have hN : cfg0.N = 16 := N_0
  have hp : Value.pt5Of (ix2 i o) = t.val := by
    show 1 * (i.val / 1024 - 0) + 1 * (o.val / 1024 - 0) = t.val
    have := o.isLt
    have := r.isLt
    omega
  have hl : Value.loc5Of (ix2 i o) = ix2 r o := by
    funext a
    apply Fin.ext
    match a with
    | ⟨0, _⟩ =>
      show i.val % 1024 = r.val
      have := r.isLt
      omega
    | ⟨1, _⟩ =>
      show o.val % 1024 = o.val
      have := o.isLt
      omega
  have hlt : Value.pt5Of (ix2 i o) < cfg0.N := by rw [hp]; exact t.isLt
  unfold Value.G5
  rw [dif_pos hlt]
  have e := (Value.outsAt0_sweep m c _ hlt).symm.trans (outs_eq m c t _ hlt)
  rw [hl]
  refine (congrFun (congrArg Prod.fst e) (ix2 r o)).trans ?_
  have ht : t = (⟨Value.pt5Of (ix2 i o), hlt⟩ : Fin cfg0.N) := Fin.ext hp.symm
  exact congrArg (fun s : Fin cfg0.N => blockV (affV (iblk m c 1 t)) (tabV (iblk m c 1 t)) (iblk m c 0 s) (iblk m c 2 s)
    (iblk m c 3 s) (iblk m c 4 s) (ix2 r o)) ht.symm

end Cert.KernelIdeal.Tables
-- ==== Proof.KernelCurve.lean ====
module

public import proofs.«01_k».proof.Proof.Chunk

/-!
The kernel's spline value in closed form: the segment the input falls in, its two end values and the cubic
between them.
-/

@[expose] public section

set_option maxRecDepth 16384

noncomputable section

open Idealize.ShloMosaic Idealize.ShloMosaic.TcCoe Idealize.SL.Sem

namespace Cert.KernelIdeal.Tables

open Cert.KernelIdeal Cert.KernelIdeal.Gen Cert.KSort Cert.KSpline

/-- The cubic between two end values at the fraction `t`. -/
def cubic (p0 p1 t : EReal) : EReal :=
  p0 + (p1 - p0) * (t * t * (Ideal.ofBits .f32 0x40400000#32 - Ideal.ofBits .f32 0x40000000#32 * t))

/-- The knot a segment starts at. -/
def kn (q : Nat) : Fin 12 := ⟨min q 11, by omega⟩

/-- A small segment word picks its own row of the low half. -/
theorem at8_lo : ∀ q : Nat, q < 8 → (at8 (BitVec.ofNat 32 q)).val = q := by
  intro q hq
  interval_cases q <;> decide

/-- A large segment word, less three, picks its own row of the high half. -/
theorem at8_hi : ∀ q : Nat, 8 ≤ q → q ≤ 10 → (at8 (IntOp.subi (BitVec.ofNat 32 q) 3#32)).val = q - 3 := by
  intro q hq hq'
  interval_cases q <;> decide

/-- The kernel's spline value over a table of segments' ends. -/
theorem splS_eq (lo hi x : EReal) (h : eps ≤ hi - lo) (P : Fin 12 → EReal) (T0 T1 : Fin 8 → Fin 2 → EReal)
    (h0 : ∀ i : Fin 8, T0 i 0 = P (kn (i.val + 1)) - P (kn i.val) ∧ T0 i 1 = P (kn i.val))
    (h1 : ∀ i : Fin 8, T1 i 0 = P (kn (i.val + 3 + 1)) - P (kn (i.val + 3)) ∧ T1 i 1 = P (kn (i.val + 3))) :
    ∃ r : ℝ, 0 ≤ r ∧ r ≤ 11 ∧ normR lo hi x = (r : EReal) ∧ splS (scaleS lo hi) (lo * scaleS lo hi) T0 T1 x
      = cubic (P (kn (segOf r))) (P (kn (segOf r + 1))) ((r - (segOf r : ℝ) : ℝ) : EReal) := by
  obtain ⟨r, hr0, hr11, hK, hR⟩ := norm_eq lo hi x h
  refine ⟨r, hr0, hr11, hR, ?_⟩
  have hq := segOf_le r
  have ek : min (Ideal.ofBits .f32 0x41300000#32) (max 0 (x * scaleS lo hi - lo * scaleS lo hi)) = (r : EReal) := hK
  unfold splS
  dsimp only
  rw [ek, floor_seg r hr0, word_seg (segOf r) hq]
  have et : (r : EReal) - ((segOf r : ℝ) : EReal) = ((r - (segOf r : ℝ) : ℝ) : EReal) := (EReal.coe_sub _ _).symm
  rw [et]
  by_cases h8 : Ideal.ofBits .f32 0x41000000#32 ≤ (r : EReal)
  · have hq8 := (eight_le_iff r hr0).mp h8
    have e3 : (at8 (IntOp.subi (BitVec.ofNat 32 (segOf r)) 3#32)).val + 3 = segOf r := by
      rw [at8_hi _ hq8 hq]
      omega
    rw [if_pos h8, if_pos h8, (h1 _).1, (h1 _).2, e3]
    rfl
  · have hq8 : segOf r < 8 := by
      by_contra hc
      exact h8 ((eight_le_iff r hr0).mpr (by omega))
    rw [if_neg h8, if_neg h8, (h0 _).1, (h0 _).2, at8_lo _ hq8]
    rfl

/-- The gated coefficient at a sorted knot. -/
def gated (raw : FVec Ideal S40x1024 .f32) (f : Fin 1024) (k : Fin 12) : EReal :=
  cell raw 1 (src (keys raw f) 12 k) f * Ideal.logistic (cell raw 2 (src (keys raw f) 12 k) f)

/-- The least knot position of a feature, as sorted. -/
def loK (raw : FVec Ideal S40x1024 .f32) (f : Fin 1024) : EReal := cell raw 0 (src (keys raw f) 12 0) f

/-- The greatest knot position of a feature, as sorted. -/
def hiK (raw : FVec Ideal S40x1024 .f32) (f : Fin 1024) : EReal := cell raw 0 (src (keys raw f) 12 11) f

/-- The scale row at a feature, from the least and the greatest knot. -/
theorem scaleRow_apply (raw : FVec Ideal S40x1024 .f32) (f : Fin 1024) :
    scaleRow raw (ix2 0 f) = scaleS (loK raw f) (hiK raw f) := by
  pointwise [scaleRow, k0_pay493]
  rfl

/-- A row of modulated coefficients at a feature is the gated coefficient. -/
theorem mcRow_apply (raw : FVec Ideal S40x1024 .f32) (f : Fin 1024) (k : Fin 12) :
    mcRow raw k (ix2 0 f) = gated raw f k := rfl

/-- A place below twelve, as a knot. -/
theorem kn_eq (n : Nat) (h : n < 12) : (⟨n, h⟩ : Fin 12) = kn n := Fin.ext (by show n = min n 11; omega)

/-- The kernel's spline values in closed form. -/
theorem splV_apply (raw : FVec Ideal S40x1024 .f32) (x : FVec Ideal S1024x1024 .f32) (p f : Fin 1024)
    (h : eps ≤ hiK raw f - loK raw f) :
    ∃ r : ℝ, 0 ≤ r ∧ r ≤ 11 ∧ normR (loK raw f) (hiK raw f) (x (ix2 p f)) = (r : EReal)
      ∧ splV (affV raw) (tabV raw) x (ix2 p f)
        = cubic (gated raw f (kn (segOf r))) (gated raw f (kn (segOf r + 1))) ((r - (segOf r : ℝ) : ℝ) : EReal) := by
  have e := splS_eq (loK raw f) (hiK raw f) (x (ix2 p f)) h (gated raw f)
    (fun i h => tabV raw (ix3 ⟨i.val, by have := i.isLt; omega⟩ h f))
    (fun i h => tabV raw (ix3 ⟨8 + i.val, by have := i.isLt; omega⟩ h f))
    (fun i => by
      have hi := i.isLt
      have hs : seg ⟨i.val, by omega⟩ = i.val := by unfold seg; rw [if_pos hi]
      have hs1 := kn_eq (i.val + 1) (by omega)
      have hs0 := kn_eq i.val (by omega)
      rw [← hs1, ← hs0]
      constructor
      · show mcRow raw ⟨seg ⟨i.val, _⟩ + 1, _⟩ (ix2 0 f) - mcRow raw ⟨seg ⟨i.val, _⟩, _⟩ (ix2 0 f) = _
        simp only [hs]
        rfl
      · show mcRow raw ⟨seg ⟨i.val, _⟩, _⟩ (ix2 0 f) = _
        simp only [hs]
        rfl)
    (fun i => by
      have hi := i.isLt
      have hs : seg ⟨8 + i.val, by omega⟩ = i.val + 3 := by unfold seg; rw [if_neg (by simp)]; show 8 + i.val - 5 = _; omega
      have hs1 := kn_eq (i.val + 3 + 1) (by omega)
      have hs0 := kn_eq (i.val + 3) (by omega)
      rw [← hs1, ← hs0]
      constructor
      · show mcRow raw ⟨seg ⟨8 + i.val, _⟩ + 1, _⟩ (ix2 0 f) - mcRow raw ⟨seg ⟨8 + i.val, _⟩, _⟩ (ix2 0 f) = _
        simp only [hs]
        rfl
      · show mcRow raw ⟨seg ⟨8 + i.val, _⟩, _⟩ (ix2 0 f) = _
        simp only [hs]
        rfl)
  obtain ⟨r, hr0, hr1, hn, hv⟩ := e
  refine ⟨r, hr0, hr1, hn, ?_⟩
  rw [← hv, ← scaleRow_apply]
  rfl

end Cert.KernelIdeal.Tables
-- ==== Proof.RefSort.lean ====
module

public import proofs.«01_k».proof.Proof.Sort
public import proofs.«01_k».proof.Proof.Spline
public import proofs.«01_k».proof.Proof.Gen.ReferenceIdeal.Run
public import Idealize.ShloMosaic.Lib.SortFacts
public import Idealize.ShloMosaic.Lib.ReduceAll
public import Idealize.ShloMosaic.Lib.Pointwise
public import Idealize.ShloMosaic.Lib.Tactic.CleanTypes

/-!
The sorted tables of the reference. The argument sort of the knot positions is `Cert.KSort.src`, and taking a
table along it reads the table's row at the sorted position.
-/

@[expose] public section

set_option maxRecDepth 16384

noncomputable section

open Idealize.ShloMosaic Idealize.ShloMosaic.TcCoe Idealize.SL.Sem

namespace Cert.ReferenceIdeal.Tables

open Cert.ReferenceIdeal Cert.ReferenceIdeal.Gen Cert.ReferenceIdeal.Value Cert.KSort
open Idealize.ShloMosaic.StableHlo

/-- The sort's comparison is the order of the keys. -/
theorem cmp_eq (a b : EReal) (i j : BitVec 32) :
    (comparator_f32_i32_d1 (F := Ideal) (a, i) (b, j) == 1#1) = decide (a < b) := by
  unfold comparator_f32_i32_d1
  have z : (FloatOps.ofBits (F := Ideal) .f32 0x00000000#32 : EReal) = 0 := by
    show Ideal.ofBits .f32 0x00000000#32 = 0
    simp [Ideal.ofBits, Ideal.ieee]
  have e : ∀ x : EReal, (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := by
    intro x
    rw [z]
    show Scalar.select (Ideal.cmp .une x x) _ (Scalar.select (Ideal.cmp .oeq x 0) 0 x) = x
    by_cases hx : x = 0 <;> simp [Scalar.select, Ideal.cmp, hx]
  dsimp only
  erw [e a, e b]
  show (Ideal.cmpTotal .lt a b == 1#1) = _
  by_cases h : a < b <;> simp [Ideal.cmpTotal, Ideal.cmp, CmpDirection.ordered, h]

/-- The element of `g` at `(f, p)`. -/
def rowOf (g : FVec Ideal S1024x12 .f32) (f : Fin 1024) (p : Fin 12) : EReal := g (ix2 f p)

/-- A sort along axis 1, at an index. -/
theorem sortBy_row {ι α : Type} (cmp : ι → ι → BitVec 1) (rows : S1024x12.Idx → ι) (x : S1024x12.Idx → α) (f : Fin 1024) (k : Fin 12) :
    Host.sortBy S1024x12 1 cmp rows x (ix2 f k)
      = x (ix2 f (sortedFrom (fun p q => cmp (rows (ix2 f p)) (rows (ix2 f q)) == 1#1) k)) := by
  have ha : ∀ q : Fin 12, Shape.Idx.along (s := S1024x12) (ix2 f k) (1 : Fin 2) q = ix2 f q := by
    intro q
    funext a
    match a with
    | ⟨0, _⟩ => rfl
    | ⟨1, _⟩ => rfl
  unfold Host.sortBy
  rw [dif_pos (by decide)]
  refine (congrArg x (ha _)).trans ?_
  refine congrArg x (congrArg (ix2 f) ?_)
  refine congrArg (fun b => sortedFrom (n := 12) b k) ?_
  funext p q
  exact congrArg₂ (fun u v => cmp (rows u) (rows v) == 1#1) (ha p) (ha q)

/-- The argument sort of the knot positions of a feature. -/
theorem argsort_apply (V0 : Valuation τ sig (Elt Ideal)) (f : Fin 1024) (k : Fin 12) :
    (res_main_v0 V0 : IVec S1024x12 32) (ix2 f k)
      = BitVec.ofNat 32 (src (rowOf (V0 (Proc.devRef .tc main_arg1)) f) 12 k).val := by
  have e := congrFun (sortedFrom_eq_src (rowOf (V0 (Proc.devRef .tc main_arg1)) f)) k
  have h2 := congrArg Prod.snd (Host.sort2_eq_sortBy S1024x12 1 (comparator_f32_i32_d1 (F := Ideal))
    (V0 (Proc.devRef .tc main_arg1) : FVec Ideal S1024x12 .f32) (iotaInDim S1024x12 32 1))
  refine (congrFun h2 (ix2 f k)).trans ?_
  rw [← e]
  show Host.sortBy S1024x12 1 (comparator_f32_i32_d1 (F := Ideal)) (fun j => ((V0 (Proc.devRef .tc main_arg1) : FVec Ideal S1024x12 .f32) j, iotaInDim S1024x12 32 1 j))
    (iotaInDim S1024x12 32 1) (ix2 f k) = _
  refine (sortBy_row _ _ _ f k).trans ?_
  simp only [cmp_eq]
  rfl

/-- Taking along axis 1: its dimension numbers. -/
abbrev alongD := gather_S1024x12_S1024x12x1_S1024x12_n_1_0_0_1_2_11

/-- Reading at a pair of words: its dimension numbers. -/
abbrev pairD := gather_S1024x12_S16384x1024x2_S16384x1024_n_01_n_n_01_2_11

/-- Taking a table along axis 1 reads the table at the index word. -/
theorem along_apply {α : Type} (x : S1024x12.Idx → α) (idx : IVec S1024x12x1 32) (f : Fin 1024) (k b : Fin 12)
    (hb : idx (ix3 f k (0 : Fin 1)) = BitVec.ofNat 32 b.val) :
    Host.gather alongD x idx (ix2 f k) = x (ix2 f b) := by
  unfold Host.gather
  refine congrArg x (funext fun a => Fin.ext ?_)
  show GatherDims.start _ (ix2 f k) idx a + GatherDims.batchCoord _ (ix2 f k) a + GatherDims.offCoord _ (ix2 f k) a = _
  rcases (by match a with | ⟨0, _⟩ => exact Or.inl rfl | ⟨1, _⟩ => exact Or.inr rfl : a = (0 : Fin 2) ∨ a = (1 : Fin 2)) with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ alongD.operandBatchingDims from List.mem_singleton.mpr rfl)]
    rfl
  · rw [GatherDims.batchCoord_eq_zero _ _ _ (show (1 : Fin 2) ∉ alongD.operandBatchingDims from fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ alongD.startIndexMap from List.mem_singleton.mpr rfl)]
    have hsi : ∀ h, GatherDims.siIdx alongD (ix2 f k) ⟨List.idxOf (1 : Fin 2)
        [1], h⟩ = ix3 f k (0 : Fin 1) := by
      intro h
      funext b; refine Fin.ext ?_
      match b with
      | ⟨0, _⟩ => rfl
      | ⟨1, _⟩ => rfl
      | ⟨2, _⟩ => rfl
    refine (congrArg (fun z => min (idx z).toInt.toNat (12 - 1)) (hsi _)).trans ?_
    show min (idx _).toInt.toNat (12 - 1) = b.val
    rw [hb]
    clear hb
    revert b
    decide

/-- Reading a table at a pair of index words. -/
theorem pair_apply {α : Type} (x : S1024x12.Idx → α) (idx : IVec S16384x1024x2 32) (i : Fin 16384) (f g : Fin 1024) (b : Fin 12)
    (hg : idx (ix3 i f (0 : Fin 2)) = BitVec.ofNat 32 g.val) (hb : idx (ix3 i f (1 : Fin 2)) = BitVec.ofNat 32 b.val) :
    Host.gather pairD x idx (ix2 i f) = x (ix2 g b) := by
  unfold Host.gather
  refine congrArg x (funext fun a => Fin.ext ?_)
  show GatherDims.start _ (ix2 i f) idx a + GatherDims.batchCoord _ (ix2 i f) a + GatherDims.offCoord _ (ix2 i f) a = _
  rw [GatherDims.batchCoord_eq_zero _ _ _ List.not_mem_nil]
  rcases (by match a with | ⟨0, _⟩ => exact Or.inl rfl | ⟨1, _⟩ => exact Or.inr rfl : a = (0 : Fin 2) ∨ a = (1 : Fin 2)) with rfl | rfl
  · rw [GatherDims.offCoord_eq_zero _ _ _ (fun h => ((GatherDims.mem_sKept _ _).mp h).1 (List.mem_cons_self))]
    simp only [Nat.add_zero]
    unfold GatherDims.start
    rw [dif_pos (show (0 : Fin 2) ∈ pairD.startIndexMap from List.mem_cons_self)]
    have hsi : ∀ h, GatherDims.siIdx pairD (ix2 i f) ⟨List.idxOf (0 : Fin 2)
        [0, 1], h⟩ = ix3 i f (0 : Fin 2) := by
      intro h
      funext b; refine Fin.ext ?_
      match b with
      | ⟨0, _⟩ => rfl
      | ⟨1, _⟩ => rfl
      | ⟨2, _⟩ => rfl
    refine (congrArg (fun z => min (idx z).toInt.toNat (1024 - 1)) (hsi _)).trans ?_
    show min (idx _).toInt.toNat (1024 - 1) = g.val
    rw [hg]
    have h2 : (BitVec.ofNat 32 g.val).toInt = (g.val : Int) := by
      rw [BitVec.toInt_eq_toNat_of_lt] <;> simp <;> omega
    rw [h2]
    omega
  · rw [GatherDims.offCoord_eq_zero _ _ _ (fun h => ((GatherDims.mem_sKept _ _).mp h).1 (List.mem_cons_of_mem _ (List.mem_singleton.mpr rfl)))]
    simp only [Nat.add_zero]
    unfold GatherDims.start
    rw [dif_pos (show (1 : Fin 2) ∈ pairD.startIndexMap from List.mem_cons_of_mem _ (List.mem_singleton.mpr rfl))]
    have hsi : ∀ h, GatherDims.siIdx pairD (ix2 i f) ⟨List.idxOf (1 : Fin 2)
        [0, 1], h⟩ = ix3 i f (1 : Fin 2) := by
      intro h
      funext b; refine Fin.ext ?_
      match b with
      | ⟨0, _⟩ => rfl
      | ⟨1, _⟩ => rfl
      | ⟨2, _⟩ => rfl
    refine (congrArg (fun z => min (idx z).toInt.toNat (12 - 1)) (hsi _)).trans ?_
    show min (idx _).toInt.toNat (12 - 1) = b.val
    rw [hb]
    clear hb
    revert b
    decide

/-- The index words of a take: a word below zero counts from the end. -/
def wordV (w : IVec S1024x12 32) : IVec S1024x12x1 32 :=
  shapeCast S1024x12x1 (select (cmpi .slt w (broadcastInDim S1024x12 ![] bcast_S_S1024x12 (constantI S_ 32 0#32)))
    (addi w (broadcastInDim S1024x12 ![] bcast_S_S1024x12 (constantI S_ 32 12#32))) w) shapeCasts_S1024x12_S1024x12x1

/-- Whether each index word is in range. -/
def inV (w : IVec S1024x12 32) : IVec S1024x12x1 1 :=
  andi (cmpi .sge (wordV w) (broadcastInDim S1024x12x1 ![] bcast_S_S1024x12x1 (constantI S_ 32 0#32)))
      (cmpi .sle (wordV w) (broadcastInDim S1024x12x1 ![0, 1, 2] bcast_S1x1x1_S1024x12x1_0_1_2 (broadcastInDim S1x1x1 ![2] bcast_S1_S1x1x1_2 (constantI S1 32 11#32))))

/-- A table taken along an argument sort's words, as the reference spells it: out-of-range words read the pad. -/
def takeV (x : FVec Ideal S1024x12 .f32) (w : IVec S1024x12 32) : FVec Ideal S1024x12 .f32 :=
  select (Host.reduce IntOp.andi (inV w) (constantI S_ 1 1#1) reducesTo_S1024x12x1_S1024x12_d2 h_S_)
    (Host.gather gather_S1024x12_S1024x12x1_S1024x12_n_1_0_0_1_2_11 x (wordV w)) (broadcastInDim S1024x12 ![] bcast_S_S1024x12 (constant S_ .f32 0x7FC00000#32))

/-- The sorted knot positions. -/
theorem v1_eq (V0 : Valuation τ sig (Elt Ideal)) : res_main_v1 V0 = takeV (V0 (Proc.devRef .tc main_arg1)) (res_main_v0 V0) := rfl

/-- The gated coefficients, sorted. -/
theorem v11_eq (V0 : Valuation τ sig (Elt Ideal)) : res_main_v11 V0
    = mulf (takeV (V0 (Proc.devRef .tc main_arg2)) (res_main_v0 V0)) (res_main_v10 V0) := rfl

/-- The gated tangents, sorted. -/
theorem v12_eq (V0 : Valuation τ sig (Elt Ideal)) : res_main_v12 V0
    = mulf (takeV (V0 (Proc.devRef .tc main_arg3)) (res_main_v0 V0)) (res_main_v10 V0) := rfl

/-- The gates, sorted. -/
theorem v10_eq (V0 : Valuation τ sig (Elt Ideal)) : res_main_v10 V0
    = Host.divf (broadcastInDim S1024x12 ![] bcast_S_S1024x12 (constant S_ .f32 0x3F800000#32)) (addf (broadcastInDim S1024x12 ![] bcast_S_S1024x12 (constant S_ .f32 0x3F800000#32)) (Host.exp (Host.negf (takeV (V0 (Proc.devRef .tc main_arg4)) (res_main_v0 V0))))) := rfl

/-- The index words of positions are the positions. -/
theorem wordV_apply (w : IVec S1024x12 32) (s : Fin 1024 → Fin 12 → Fin 12)
    (hw : ∀ f k, w (ix2 f k) = BitVec.ofNat 32 (s f k).val) (f : Fin 1024) (k : Fin 12) :
    wordV w (ix3 f k (0 : Fin 1)) = BitVec.ofNat 32 (s f k).val := by
  pointwise [wordV]
  rw [hw]
  generalize s f k = b
  revert b
  decide

/-- Where every word is in range, the take reads the table at the word. -/
theorem takeV_apply (x : FVec Ideal S1024x12 .f32) (w : IVec S1024x12 32) (s : Fin 1024 → Fin 12 → Fin 12)
    (hw : ∀ f k, w (ix2 f k) = BitVec.ofNat 32 (s f k).val) (f : Fin 1024) (k : Fin 12) :
    takeV x w (ix2 f k) = x (ix2 f (s f k)) := by
  have h1 : Host.reduce IntOp.andi (inV w) (constantI S_ 1 1#1) reducesTo_S1024x12x1_S1024x12_d2 h_S_ (ix2 f k) = 1#1 := by
    refine Host.reduce_andi_one (inV w) _ _ _ _ rfl fun i => ?_
    idx_vars i
    obtain rfl : i2 = 0 := Subsingleton.elim _ _
    pointwise [inV]
    rw [wordV_apply w s hw]
    generalize s i0 i1 = q
    revert q
    decide
  show Scalar.select (Host.reduce IntOp.andi (inV w) (constantI S_ 1 1#1) reducesTo_S1024x12x1_S1024x12_d2 h_S_ (ix2 f k))
    (Host.gather gather_S1024x12_S1024x12x1_S1024x12_n_1_0_0_1_2_11 x (wordV w) (ix2 f k)) _ = _
  rw [h1]
  exact along_apply x (wordV w) f k (s f k) (wordV_apply w s hw f k)

end Cert.ReferenceIdeal.Tables
-- ==== Proof.RefValue.lean ====
module

public import proofs.«01_k».proof.Proof.RefSort

/-!
The reference's spline value at an index: the Hermite cubic between the sorted, gated coefficients at the two ends
of the segment the input falls in.
-/

@[expose] public section

set_option maxRecDepth 16384

noncomputable section

open Idealize.ShloMosaic Idealize.ShloMosaic.TcCoe Idealize.SL.Sem

namespace Cert.ReferenceIdeal.Tables

open Cert.ReferenceIdeal Cert.ReferenceIdeal.Gen Cert.ReferenceIdeal.Value Cert.KSort Cert.KSpline
open Idealize.ShloMosaic.StableHlo

variable (V0 : Valuation τ sig (Elt Ideal))

/-- The element of a block at `(i, f)`. -/
def elem (x : FVec Ideal S16384x1024 .f32) (i : Fin 16384) (f : Fin 1024) : EReal := x (ix2 i f)

/-- The element of a square matrix. -/
def sq (x : FVec Ideal S1024x1024 .f32) (o k : Fin 1024) : EReal := x (ix2 o k)

/-- The element of a vector. -/
def vec (x : FVec Ideal S1024 .f32) (o : Fin 1024) : EReal := x (ix1 o)

/-- The word of a block at `(i, f)`. -/
def wordAt (x : IVec S16384x1024 32) (i : Fin 16384) (f : Fin 1024) : BitVec 32 := x (ix2 i f)

/-- The source of sorted place `k` of feature `f`. -/
def at12 (f : Fin 1024) (k : Fin 12) : Fin 12 := src (rowOf (V0 (Proc.devRef .tc main_arg1)) f) 12 k

/-- The sorted knot positions. -/
def grid (f : Fin 1024) (k : Fin 12) : EReal := rowOf (V0 (Proc.devRef .tc main_arg1)) f (at12 V0 f k)

/-- The sorted gates. -/
def gate (f : Fin 1024) (k : Fin 12) : EReal := Ideal.logistic (rowOf (V0 (Proc.devRef .tc main_arg4)) f (at12 V0 f k))

/-- The sorted, gated coefficients. -/
def coef (f : Fin 1024) (k : Fin 12) : EReal := rowOf (V0 (Proc.devRef .tc main_arg2)) f (at12 V0 f k) * gate V0 f k

/-- The reference's sorted grid. -/
theorem v1_apply (f : Fin 1024) (k : Fin 12) : rowOf (res_main_v1 V0) f k = grid V0 f k := by
  rw [v1_eq]
  exact takeV_apply _ _ (at12 V0) (argsort_apply V0) f k

/-- The float word of one. -/
theorem one_bits : Ideal.ofBits .f32 0x3F800000#32 = 1 := by
  simp [Ideal.ofBits, Ideal.ieee, -EReal.coe_mul]
  norm_num

/-- The reference's gate: the logistic of the sorted aliveness, written as a quotient. -/
theorem v10_apply (f : Fin 1024) (k : Fin 12) : rowOf (res_main_v10 V0) f k = gate V0 f k := by
  rw [v10_eq]
  show Ideal.div (Ideal.ofBits .f32 0x3F800000#32) (Ideal.ofBits .f32 0x3F800000#32 + Ideal.exp (- (rowOf (takeV _ _) f k))) = _
  rw [rowOf, takeV_apply _ _ (at12 V0) (argsort_apply V0) f k, one_bits]
  rfl

/-- The reference's gated heights. -/
theorem v11_apply (f : Fin 1024) (k : Fin 12) : rowOf (res_main_v11 V0) f k = coef V0 f k := by
  rw [v11_eq]
  show rowOf (takeV _ _) f k * rowOf (res_main_v10 V0) f k = _
  rw [v10_apply, rowOf, takeV_apply _ _ (at12 V0) (argsort_apply V0) f k]
  rfl

/-- The reference's gated tangents vanish where the tangents do. -/
theorem v12_apply (h : ∀ f k, rowOf (V0 (Proc.devRef .tc main_arg3)) f k = 0) (f : Fin 1024) (k : Fin 12) :
    rowOf (res_main_v12 V0) f k = 0 := by
  rw [v12_eq]
  show rowOf (takeV _ _) f k * rowOf (res_main_v10 V0) f k = _
  rw [rowOf, takeV_apply _ _ (at12 V0) (argsort_apply V0) f k]
  exact (congrArg (· * _) (h f _)).trans (zero_mul _)

/-- The least knot of a feature. -/
theorem v15_apply (f : Fin 1024) : vec (res_main_v15 V0) f = grid V0 f 0 := by
  unfold vec res_main_v15
  clean_types
  pointwise
  exact v1_apply V0 f 0

/-- The greatest knot of a feature. -/
theorem v17_apply (f : Fin 1024) : vec (res_main_v17 V0) f = grid V0 f 11 := by
  unfold vec res_main_v17
  clean_types
  pointwise
  exact v1_apply V0 f 11

/-- The reference's input at an index. -/
def xR (i : Fin 16384) (f : Fin 1024) : EReal := elem (res_main_v13 V0) i f

/-- The reference's normalised input. -/
theorem v31_apply (i : Fin 16384) (f : Fin 1024) :
    elem (res_main_v31 V0) i f = normR (grid V0 f 0) (grid V0 f 11) (xR V0 i f) := by
  unfold elem res_main_v31
  clean_types
  pointwise
  have e15 := v15_apply V0 f
  have e17 := v17_apply V0 f
  unfold normR xR
  rw [← e15, ← e17]
  rfl

/-- The reference's segment word. -/
theorem v33_apply (i : Fin 16384) (f : Fin 1024) (r : ℝ) (h0 : 0 ≤ r) (h1 : r ≤ 11)
    (hr : normR (grid V0 f 0) (grid V0 f 11) (xR V0 i f) = (r : EReal)) :
    wordAt (res_main_v33 V0) i f = BitVec.ofNat 32 (segOf r) := by
  rw [← ref_seg r h0 h1, ← hr, ← v31_apply]
  rfl

/-- The reference's fraction within the segment. -/
theorem v35_apply (i : Fin 16384) (f : Fin 1024) (r : ℝ) (h0 : 0 ≤ r) (h1 : r ≤ 11)
    (hr : normR (grid V0 f 0) (grid V0 f 11) (xR V0 i f) = (r : EReal)) :
    elem (res_main_v35 V0) i f = ((r - (segOf r : ℝ) : ℝ) : EReal) := by
  show elem (res_main_v31 V0) i f
    - ((((wordAt (res_main_v33 V0) i f).toInt : ℝ)) : EReal) = _
  rw [v31_apply, hr, v33_apply V0 i f r h0 h1 hr, sitofp_seg _ (segOf_le r), EReal.coe_sub]

/-- The pairs of index words (feature, place) at which the reference reads a sorted table. -/
def pairV (w : IVec S16384x1024 32) : IVec S16384x1024x2 32 :=
  concatenate S16384x1024x2 2 [⟨S16384x1024x1, (broadcastInDim S16384x1024x1 ![0, 1] bcast_S16384x1024_S16384x1024x1_0_1 (broadcastInDim S16384x1024 ![0, 1] bcast_S1x1024_S16384x1024_0_1 (select (cmpi .slt (broadcastInDim S1x1024 ![1] bcast_S1024_S1x1024_1 (iotaInDim S1024 32 0)) (broadcastInDim S1x1024 ![] bcast_S_S1x1024 (constantI S_ 32 0#32))) (addi (broadcastInDim S1x1024 ![1] bcast_S1024_S1x1024_1 (iotaInDim S1024 32 0)) (broadcastInDim S1x1024 ![] bcast_S_S1x1024 (constantI S_ 32 1024#32))) (broadcastInDim S1x1024 ![1] bcast_S1024_S1x1024_1 (iotaInDim S1024 32 0)))) : IVec S16384x1024x1 32)⟩,
    ⟨S16384x1024x1, (broadcastInDim S16384x1024x1 ![0, 1] bcast_S16384x1024_S16384x1024x1_0_1 (select (cmpi .slt w (broadcastInDim S16384x1024 ![] bcast_S_S16384x1024 (constantI S_ 32 0#32))) (addi w (broadcastInDim S16384x1024 ![] bcast_S_S16384x1024 (constantI S_ 32 12#32))) w) : IVec S16384x1024x1 32)⟩] concatenates_S16384x1024x1_S16384x1024x1_S16384x1024x2_d2

/-- The first word of a pair is the feature. -/
theorem pairV_0 (w : IVec S16384x1024 32) (i : Fin 16384) (f : Fin 1024) : pairV w (ix3 i f (0 : Fin 2)) = BitVec.ofNat 32 f.val := by
  pointwise [pairV]
  have hf := f.isLt
  have h0 : IntOp.cmpi .slt (BitVec.ofNat 32 f.val) 0#32 = 0#1 := by
    show BitVec.ofBool (BitVec.slt _ _) = 0#1
    have : (BitVec.ofNat 32 f.val).toInt = (f.val : Int) := by
      rw [BitVec.toInt_eq_toNat_of_lt] <;> simp <;> omega
    rw [BitVec.slt, this]
    have hn : ¬ ((f.val : Int) < (0#32 : BitVec 32).toInt) := by
      show ¬ ((f.val : Int) < 0)
      omega
    rw [decide_eq_false hn]
    rfl
  rw [h0]
  rfl

/-- The second word of a pair is the place. -/
theorem pairV_1 (w : IVec S16384x1024 32) (i : Fin 16384) (f : Fin 1024) (b : Fin 12) (h : w (ix2 i f) = BitVec.ofNat 32 b.val) :
    pairV w (ix3 i f (1 : Fin 2)) = BitVec.ofNat 32 b.val := by
  pointwise [pairV]
  rw [h]
  clear h
  revert b
  decide

/-- A sorted table read at the pairs of words. -/
theorem look_apply (x : FVec Ideal S1024x12 .f32) (w : IVec S16384x1024 32) (i : Fin 16384) (f : Fin 1024) (b : Fin 12)
    (h : wordAt w i f = BitVec.ofNat 32 b.val) : elem (Host.gather pairD x (pairV w)) i f = rowOf x f b :=
  pair_apply x (pairV w) i f f b (pairV_0 w i f) (pairV_1 w i f b h)

/-- The reference's spline term, with its table reads named. -/
theorem v164_eq : res_main_v164 V0 = addf (addf (addf (mulf (addf (subf (mulf (broadcastInDim S16384x1024 ![] bcast_S_S16384x1024 (constant S_ .f32 0x40000000#32)) (res_main_v138 V0)) (mulf (broadcastInDim S16384x1024 ![] bcast_S_S16384x1024 (constant S_ .f32 0x40400000#32)) (res_main_v137 V0))) (broadcastInDim S16384x1024 ![] bcast_S_S16384x1024 (constant S_ .f32 0x3F800000#32)))
      (Host.gather pairD (res_main_v11 V0) (pairV (res_main_v33 V0))))
    (mulf (mulf (addf (subf (res_main_v138 V0) (mulf (broadcastInDim S16384x1024 ![] bcast_S_S16384x1024 (constant S_ .f32 0x40000000#32)) (res_main_v137 V0))) (res_main_v35 V0))
      (Host.gather pairD (res_main_v12 V0) (pairV (res_main_v33 V0)))) (res_main_v136 V0)))
    (mulf (addf (mulf (broadcastInDim S16384x1024 ![] bcast_S_S16384x1024 (constant S_ .f32 0xC0000000#32)) (res_main_v138 V0)) (mulf (broadcastInDim S16384x1024 ![] bcast_S_S16384x1024 (constant S_ .f32 0x40400000#32)) (res_main_v137 V0)))
      (Host.gather pairD (res_main_v11 V0) (pairV (res_main_v54 V0)))))
    (mulf (mulf (subf (res_main_v138 V0) (res_main_v137 V0)) (Host.gather pairD (res_main_v12 V0) (pairV (res_main_v86 V0)))) (res_main_v136 V0)) := rfl

/-- The word after a segment word. -/
theorem next_word : ∀ q : Nat, q ≤ 10 → IntOp.addi (BitVec.ofNat 32 q) 1#32 = BitVec.ofNat 32 (q + 1) := by
  intro q hq
  interval_cases q <;> decide

/-- The reference's spline value: the cubic between the two gated coefficients, where these are real and the
    tangents are zero. -/
theorem v164_apply (ht : ∀ f k, rowOf (V0 (Proc.devRef .tc main_arg3)) f k = 0)
    (i : Fin 16384) (f : Fin 1024) (r : ℝ) (h0 : 0 ≤ r) (h1 : r ≤ 11)
    (hr : normR (grid V0 f 0) (grid V0 f 11) (xR V0 i f) = (r : EReal)) (a b : Fin 12) (ha : a.val = segOf r) (hb : b.val = segOf r + 1)
    (p0 p1 : ℝ) (hp0 : coef V0 f a = (p0 : EReal)) (hp1 : coef V0 f b = (p1 : EReal)) :
    elem (res_main_v164 V0) i f
      = (p0 : EReal) + ((p1 : EReal) - p0) * (((r - (segOf r : ℝ) : ℝ) : EReal) * ((r - (segOf r : ℝ) : ℝ) : EReal)
          * (Ideal.ofBits .f32 0x40400000#32 - Ideal.ofBits .f32 0x40000000#32 * ((r - (segOf r : ℝ) : ℝ) : EReal))) := by
  have e33 := v33_apply V0 i f r h0 h1 hr
  have e54 : wordAt (res_main_v54 V0) i f = BitVec.ofNat 32 b.val := by
    show IntOp.addi (wordAt (res_main_v33 V0) i f) 1#32 = _
    rw [e33, next_word _ (segOf_le r), hb]
  have e86 : wordAt (res_main_v86 V0) i f = BitVec.ofNat 32 b.val := e54
  rw [← ha] at e33
  have et := v35_apply V0 i f r h0 h1 hr
  have e137 : elem (res_main_v137 V0) i f
      = ((r - (segOf r : ℝ) : ℝ) : EReal) * ((r - (segOf r : ℝ) : ℝ) : EReal) := by
    show elem (res_main_v35 V0) i f * elem (res_main_v35 V0) i f = _
    rw [et]
  have e138 : elem (res_main_v138 V0) i f
      = ((r - (segOf r : ℝ) : ℝ) : EReal) * ((r - (segOf r : ℝ) : ℝ) : EReal) * ((r - (segOf r : ℝ) : ℝ) : EReal) := by
    show elem (res_main_v137 V0) i f * elem (res_main_v35 V0) i f = _
    rw [et, e137]
  have g0 := (look_apply (res_main_v11 V0) (res_main_v33 V0) i f a e33).trans ((v11_apply V0 f a).trans hp0)
  have g1 := (look_apply (res_main_v11 V0) (res_main_v54 V0) i f b e54).trans ((v11_apply V0 f b).trans hp1)
  have m0 := (look_apply (res_main_v12 V0) (res_main_v33 V0) i f a e33).trans (v12_apply V0 ht f a)
  have m1 := (look_apply (res_main_v12 V0) (res_main_v86 V0) i f b e86).trans (v12_apply V0 ht f b)
  rw [v164_eq]
  have key := hermite p0 p1 (r - (segOf r : ℝ)) _ _ (elem (res_main_v136 V0) i f)
    (((r - (segOf r : ℝ) : ℝ) : EReal) * ((r - (segOf r : ℝ) : ℝ) : EReal) * ((r - (segOf r : ℝ) : ℝ) : EReal)
      - Ideal.ofBits .f32 0x40000000#32 * (((r - (segOf r : ℝ) : ℝ) : EReal) * ((r - (segOf r : ℝ) : ℝ) : EReal)) + ((r - (segOf r : ℝ) : ℝ) : EReal))
    (((r - (segOf r : ℝ) : ℝ) : EReal) * ((r - (segOf r : ℝ) : ℝ) : EReal) * ((r - (segOf r : ℝ) : ℝ) : EReal)
      - ((r - (segOf r : ℝ) : ℝ) : EReal) * ((r - (segOf r : ℝ) : ℝ) : EReal)) m0 m1
  refine Eq.trans ?_ key.symm
  rw [← e138, ← e137, ← et, ← g0, ← g1, ← one_bits]
  rfl

/-- Two products and a bias, as the reference adds them. -/
def outOf (s x : FVec Ideal S16384x1024 .f32) (w5 : FVec Ideal S1024x1024 .f32) (b : FVec Ideal S1024 .f32)
    (w7 : FVec Ideal S1024x1024 .f32) : FVec Ideal S16384x1024 .f32 :=
  addf (addf (Host.dotGeneral dot_S16384x1024_S1024x1024_S16384x1024_1_1_0_0_n_n none s w5)
      (broadcastInDim S16384x1024 ![0, 1] bcast_S1x1024_S16384x1024_0_1 (broadcastInDim S1x1024 ![1] bcast_S1024_S1x1024_1 b)))
    (Host.dotGeneral dot_S16384x1024_S1024x1024_S16384x1024_1_1_0_0_n_n none x w7)

/-- Two products and a bias at an index. -/
theorem outOf_apply (s x : FVec Ideal S16384x1024 .f32) (w5 : FVec Ideal S1024x1024 .f32) (b : FVec Ideal S1024 .f32)
    (w7 : FVec Ideal S1024x1024 .f32) (i : Fin 16384) (o : Fin 1024) : outOf s x w5 b w7 (ix2 i o)
      = (∑ k : Fin 1024, s (ix2 i k) * w5 (ix2 o k) + b (ix1 o)) + ∑ k : Fin 1024, x (ix2 i k) * w7 (ix2 o k) := by
  pointwise [outOf]

/-- The reference's result. -/
def outR : FVec Ideal S16384x1024 .f32 :=
  outOf (res_main_v164 V0) (res_main_v13 V0) (V0 (Proc.devRef .tc main_arg5)) (V0 (Proc.devRef .tc main_arg6)) (V0 (Proc.devRef .tc main_arg7))

/-- The reference's result at an index: two products and a bias. -/
theorem outR_apply (i : Fin 16384) (o : Fin 1024) : outR V0 (ix2 i o)
    = (∑ k : Fin 1024, elem (res_main_v164 V0) i k * sq (V0 (Proc.devRef .tc main_arg5)) o k
        + vec (V0 (Proc.devRef .tc main_arg6)) o)
      + ∑ k : Fin 1024, xR V0 i k * sq (V0 (Proc.devRef .tc main_arg7)) o k :=
  outOf_apply _ _ _ _ _ i o

end Cert.ReferenceIdeal.Tables
-- ==== Proof.PreDecode.lean ====
module

public import proofs.«01_k».proof.Pre_valid
public import proofs.«01_k».proof.Proof.Spline
public import Idealize.ShloMosaic.Lib.ReduceAll
public import Idealize.ShloMosaic.PureOps.Ideal.Laws
public import Idealize.ShloMosaic.Lib.Pointwise

/-!
What the precondition says of the arguments: the tangents are zero, every row of the grid spans at least the
floor of its range, and the coefficients are real numbers.
-/

@[expose] public section

set_option maxRecDepth 16384

noncomputable section

open Idealize.ShloMosaic

namespace Cert.PreDecode

open Cert.Pre_valid Cert.KSpline

variable [Cert.Pre_valid.Facts]

/-- Rows of twelve reduce along their second axis. -/
theorem red12 : S1024x12.Reduces [1] S1024 := by decide

/-- A row's index with a column inserted. -/
theorem lift12 (f : Fin 1024) (p : Fin 12) : red12.lift (ix1 f) p = ix2 f p := by
  funext a
  apply Fin.ext
  match a with
  | ⟨0, _⟩ => rfl
  | ⟨1, _⟩ => rfl

/-- A row's reduction by maximum is the row's greatest entry. -/
theorem max_row (a1 : FVec Ideal S1024x12 .f32) (f : Fin 1024) (q : Fin 12) (hq : ∀ p, a1 (ix2 f p) ≤ a1 (ix2 f q)) :
    Host.reduce FloatOps.maximumf a1 (constant S_ .f32 0xFF800000#32 : FVec Ideal S_ .f32)
      Facts.reducesTo_S1024x12_S1024_d1 Facts.h_S_ (ix1 f) = a1 (ix2 f q) := by
  rw [Host.reduce_eq_fold_single FloatOps.maximumf a1 _ _ red12 _ (ix1 f)]
  have e : ∀ p : Fin 12, (a1 ∘ red12.lift (ix1 f)) p = a1 (ix2 f p) := fun p => congrArg a1 (lift12 f p)
  refine le_antisymm ((Finset.fold_max_le _).2 ⟨?_, fun p _ => (e p).le.trans (hq p)⟩)
    ((Finset.le_fold_max _).2 (Or.inr ⟨q, Finset.mem_univ _, (e q).ge⟩))
  show Ideal.ofBits .f32 0xFF800000#32 ≤ _
  rw [show Ideal.ofBits .f32 0xFF800000#32 = ⊥ by simp [Ideal.ofBits, Ideal.ieee]]
  exact bot_le

/-- A row's reduction by minimum is the row's least entry. -/
theorem min_row (a1 : FVec Ideal S1024x12 .f32) (f : Fin 1024) (q : Fin 12) (hq : ∀ p, a1 (ix2 f q) ≤ a1 (ix2 f p)) :
    Host.reduce FloatOps.minimumf a1 (constant S_ .f32 0x7F800000#32 : FVec Ideal S_ .f32)
      Facts.reducesTo_S1024x12_S1024_d1 Facts.h_S_ (ix1 f) = a1 (ix2 f q) := by
  rw [Host.reduce_eq_fold_single FloatOps.minimumf a1 _ _ red12 _ (ix1 f)]
  have e : ∀ p : Fin 12, (a1 ∘ red12.lift (ix1 f)) p = a1 (ix2 f p) := fun p => congrArg a1 (lift12 f p)
  refine le_antisymm ((Finset.fold_min_le _).2 (Or.inr ⟨q, Finset.mem_univ _, (e q).le⟩))
    ((Finset.le_fold_min _).2 ⟨?_, fun p _ => (hq p).trans (e p).ge⟩)
  show _ ≤ Ideal.ofBits .f32 0x7F800000#32
  rw [show Ideal.ofBits .f32 0x7F800000#32 = ⊤ by simp [Ideal.ofBits, Ideal.ieee]]
  exact le_top

/-- The precondition, read back. -/
theorem decode (a0 : FVec Ideal S4x4096x1024 .f32) (a1 a2 a3 a4 : FVec Ideal S1024x12 .f32) (a5 : FVec Ideal S1024x1024 .f32)
    (a6 : FVec Ideal S1024 .f32) (a7 : FVec Ideal S1024x1024 .f32) (h : fn (F := Ideal) a0 a1 a2 a3 a4 a5 a6 a7 = fun _ => 1#1) :
    (∀ (f : Fin 1024) (p : Fin 12), a3 (ix2 f p) = 0)
      ∧ (∀ (f : Fin 1024) (q q' : Fin 12), (∀ p, a1 (ix2 f q) ≤ a1 (ix2 f p)) → (∀ p, a1 (ix2 f p) ≤ a1 (ix2 f q')) →
          eps ≤ a1 (ix2 f q') - a1 (ix2 f q))
      ∧ ∀ (f : Fin 1024) (p : Fin 12), ∃ r : ℝ, a2 (ix2 f p) = (r : EReal) := by
  have e := congrFun h ix0
  dsimp only [fn] at e
  obtain ⟨e1, e2⟩ := IntOp.andi_eq_one.1 e
  obtain ⟨e3, e4⟩ := IntOp.andi_eq_one.1 e1
  refine ⟨fun f p => ?_, fun f q q' hq hq' => ?_, fun f p => ?_⟩
  · have z : Ideal.cmp .oeq (a3 (ix2 f p)) (Ideal.ofBits .f32 0x00000000#32) = 1#1 :=
      Host.reduce_andi_all _ _ _ _ _ e3 (ix2 f p)
    rw [show Ideal.ofBits .f32 0x00000000#32 = 0 by simp [Ideal.ofBits, Ideal.ieee]] at z
    by_contra hne
    simp [Ideal.cmp, hne] at z
  · have z : Ideal.cmp .oge (Host.reduce FloatOps.maximumf a1 (constant S_ .f32 0xFF800000#32 : FVec Ideal S_ .f32)
        Facts.reducesTo_S1024x12_S1024_d1 Facts.h_S_ (ix1 f)
        - Host.reduce FloatOps.minimumf a1 (constant S_ .f32 0x7F800000#32 : FVec Ideal S_ .f32)
        Facts.reducesTo_S1024x12_S1024_d1 Facts.h_S_ (ix1 f) : EReal) eps = 1#1 :=
      Host.reduce_andi_all _ _ _ _ _ e4 (ix1 f)
    rw [max_row a1 f q' hq', min_row a1 f q hq] at z
    by_contra hne
    simp [Ideal.cmp, hne] at z
  · have z : Ideal.cmp .olt (max (a2 (ix2 f p)) (-(a2 (ix2 f p))) : EReal) (Ideal.ofBits .f32 0x7F800000#32) = 1#1 :=
      Host.reduce_andi_all _ _ _ _ _ e2 (ix2 f p)
    rw [show Ideal.ofBits .f32 0x7F800000#32 = ⊤ by simp [Ideal.ofBits, Ideal.ieee]] at z
    have hlt : (max (a2 (ix2 f p)) (-(a2 (ix2 f p))) : EReal) < ⊤ := by
      by_contra hne
      simp only [Ideal.cmp, hne] at z
      exact absurd z (by decide)
    obtain ⟨h1, h2⟩ := max_lt_iff.1 hlt
    refine ⟨(a2 (ix2 f p) : EReal).toReal, (EReal.coe_toReal h1.ne ?_).symm⟩
    intro hb
    rw [hb] at h2
    simp at h2

end Cert.PreDecode
-- ==== Proof.Equal.lean ====
module

public import proofs.«01_k».proof.Proof.KernelOut
public import proofs.«01_k».proof.Proof.KernelCurve
public import proofs.«01_k».proof.Proof.RefValue
public import proofs.«01_k».proof.Proof.PreDecode

/-!
The kernel's result and the reference's are one array: their spline values agree at every index, and the two
products and the bias are added in different orders.
-/

@[expose] public section

set_option maxRecDepth 16384

noncomputable section

open Idealize.ShloMosaic Idealize.ShloMosaic.TcCoe Idealize.SL.Sem

namespace Cert.Equal

open Cert.KSort Cert.KSpline Cert.ReferenceIdeal.Tables
open Cert.KernelIdeal.Tables (rawV cell keys gated loK hiK kn cubic splV affV tabV raw_cell0 raw_cell1 raw_cell2)

variable (V0 : Valuation Cert.ReferenceIdeal.τ Cert.ReferenceIdeal.sig (Elt Ideal))
  (a1 a2 a3 a4 : FVec Ideal Cert.KernelIdeal.S1024x12 .f32)

/-- The kernel's knot positions of a feature are the reference's row of the grid. -/
theorem keys_eq (h1 : V0 (Proc.devRef .tc Cert.ReferenceIdeal.main_arg1) = a1) (f : Fin 1024) :
    keys (rawV a1 a2 a4) f = rowOf (V0 (Proc.devRef .tc Cert.ReferenceIdeal.main_arg1)) f := by
  funext p
  show cell (rawV a1 a2 a4) 0 p f = _
  rw [raw_cell0, h1]
  rfl

/-- The knots' sorted positions agree. -/
theorem grid_eq (h1 : V0 (Proc.devRef .tc Cert.ReferenceIdeal.main_arg1) = a1) (f : Fin 1024) (k : Fin 12) :
    grid V0 f k = cell (rawV a1 a2 a4) 0 (src (keys (rawV a1 a2 a4) f) 12 k) f := by
  unfold grid at12
  rw [← keys_eq V0 a1 a2 a4 h1 f]
  rfl

/-- The gated coefficients in the knots' order agree. -/
theorem coef_eq (h1 : V0 (Proc.devRef .tc Cert.ReferenceIdeal.main_arg1) = a1)
    (h2 : V0 (Proc.devRef .tc Cert.ReferenceIdeal.main_arg2) = a2) (h4 : V0 (Proc.devRef .tc Cert.ReferenceIdeal.main_arg4) = a4)
    (f : Fin 1024) (k : Fin 12) : coef V0 f k = gated (rawV a1 a2 a4) f k := by
  unfold coef gate gated at12
  rw [← keys_eq V0 a1 a2 a4 h1 f, raw_cell1, raw_cell2, h2, h4]
  rfl

/-- The logistic function's values are real. -/
theorem logistic_real (x : EReal) : ∃ r : ℝ, Ideal.logistic x = (r : EReal) := by
  induction x using EReal.rec with
  | bot => exact ⟨0, by simp⟩
  | top => exact ⟨1, by simp⟩
  | coe r => exact ⟨_, Ideal.logistic_coe r⟩

/-- Where the coefficients are real, so are the gated ones. -/
theorem gated_real (hr : ∀ (f : Fin 1024) (p : Fin 12), ∃ r : ℝ, a2 (ix2 f p) = (r : EReal)) (f : Fin 1024) (k : Fin 12) :
    ∃ r : ℝ, gated (rawV a1 a2 a4) f k = (r : EReal) := by
  unfold gated
  rw [raw_cell1]
  obtain ⟨r, e⟩ := hr f (src (keys (rawV a1 a2 a4) f) 12 k)
  obtain ⟨s, e'⟩ := logistic_real (cell (rawV a1 a2 a4) 2 (src (keys (rawV a1 a2 a4) f) 12 k) f)
  exact ⟨r * s, by rw [e, e', EReal.coe_mul]⟩

/-- The spline values agree: the kernel's at an input is the reference's at the place that input comes from. -/
theorem spline_eq (h1 : V0 (Proc.devRef .tc Cert.ReferenceIdeal.main_arg1) = a1)
    (h2 : V0 (Proc.devRef .tc Cert.ReferenceIdeal.main_arg2) = a2) (h3 : V0 (Proc.devRef .tc Cert.ReferenceIdeal.main_arg3) = a3)
    (h4 : V0 (Proc.devRef .tc Cert.ReferenceIdeal.main_arg4) = a4)
    (ht : ∀ (f : Fin 1024) (p : Fin 12), a3 (ix2 f p) = 0)
    (hs : ∀ (f : Fin 1024) (q q' : Fin 12), (∀ p, a1 (ix2 f q) ≤ a1 (ix2 f p)) → (∀ p, a1 (ix2 f p) ≤ a1 (ix2 f q')) →
      eps ≤ a1 (ix2 f q') - a1 (ix2 f q))
    (hr : ∀ (f : Fin 1024) (p : Fin 12), ∃ r : ℝ, a2 (ix2 f p) = (r : EReal))
    (x : FVec Ideal Cert.KernelIdeal.S1024x1024 .f32) (p f : Fin 1024) (i : Fin 16384) (hx : x (ix2 p f) = xR V0 i f) :
    splV (affV (rawV a1 a2 a4)) (tabV (rawV a1 a2 a4)) x (ix2 p f)
      = elem (Cert.ReferenceIdeal.Value.res_main_v164 V0) i f := by
  have hk : ∀ p, keys (rawV a1 a2 a4) f p = a1 (ix2 f p) := fun p => raw_cell0 a1 a2 a4 p f
  have hb := src_bounds (keys (rawV a1 a2 a4) f)
  have hspan : eps ≤ hiK (rawV a1 a2 a4) f - loK (rawV a1 a2 a4) f := by
    unfold hiK loK
    rw [raw_cell0, raw_cell0]
    refine hs f _ _ (fun p => ?_) (fun p => ?_)
    · rw [← hk, ← hk]
      exact (hb p).1
    · rw [← hk, ← hk]
      exact (hb p).2
  obtain ⟨r, h0, h11, hn, e⟩ := Cert.KernelIdeal.Tables.splV_apply (rawV a1 a2 a4) x p f hspan
  rw [e]
  have hq := segOf_le r
  have ha : (kn (segOf r)).val = segOf r := by show min _ 11 = _; omega
  have hb' : (kn (segOf r + 1)).val = segOf r + 1 := by show min _ 11 = _; omega
  obtain ⟨p0, e0⟩ := gated_real a1 a2 a4 hr f (kn (segOf r))
  obtain ⟨p1, e1⟩ := gated_real a1 a2 a4 hr f (kn (segOf r + 1))
  rw [e0, e1]
  refine (v164_apply V0 (fun f k => ?_) i f r h0 h11 ?_ _ _ ha hb' p0 p1
    ((coef_eq V0 a1 a2 a4 h1 h2 h4 f _).trans e0) ((coef_eq V0 a1 a2 a4 h1 h2 h4 f _).trans e1)).symm
  · rw [h3]
    exact ht f k
  · rw [grid_eq V0 a1 a2 a4 h1, grid_eq V0 a1 a2 a4 h1, ← hx]
    exact hn

/-- The kernel's result array is the reference's, where the precondition holds and the arguments agree. -/
theorem result_eq (m : (ℓ : Loc Cert.KernelIdeal.nD Cert.KernelIdeal.τ Cert.KernelIdeal.sig) → Buf (Elt Ideal) ℓ)
    (c : Dev Cert.KernelIdeal.nD) [Cert.Pre_valid.Facts]
    (hpre : Cert.Pre_valid.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7)) :
    (Cert.KernelIdeal.Value.G5 m c : FVec Ideal Cert.KernelIdeal.S16384x1024 .f32) = outR V0 := by
  obtain ⟨ht, hs, hr⟩ := Cert.PreDecode.decode _ _ _ _ _ _ _ _ hpre
  have hN : Cert.KernelIdeal.cfg0.N = 16 := Cert.KernelIdeal.Gen.N_0
  funext j
  obtain ⟨i, o, rfl⟩ : ∃ (i : Fin 16384) (o : Fin 1024), j = ix2 i o := ⟨j 0, j 1, eq_ix2 j⟩
  have hi := i.isLt
  let t : Fin Cert.KernelIdeal.cfg0.N := ⟨i.val / 1024, by omega⟩
  let r : Fin 1024 := ⟨i.val % 1024, by omega⟩
  have hR : i.val = 1024 * t.val + r.val := (Nat.div_add_mod _ _).symm
  rw [outR_apply]
  refine (Cert.KernelIdeal.Tables.G5_apply m c i o t r hR).trans ?_
  refine (Cert.KernelIdeal.Tables.blockV_apply _ _ _ _ _ _ r o).trans ?_
  rw [Cert.KernelIdeal.Tables.raw_blk m c t, Cert.KernelIdeal.Tables.b_blk m c t 0 o]
  have hx : ∀ k, (Cert.KernelIdeal.Gen.iblk m c 0 t : FVec Ideal Cert.KernelIdeal.S1024x1024 .f32) (ix2 r k) = xR V0 i k := by
    intro k
    refine (Cert.KernelIdeal.Tables.x_blk m c t r k i hR).trans ?_
    rw [← h0]
    rfl
  have hP : ∀ k : Fin 1024, splV (affV (rawV _ _ _)) (tabV (rawV _ _ _)) (Cert.KernelIdeal.Gen.iblk m c 0 t) (ix2 r k)
      * (Cert.KernelIdeal.Gen.iblk m c 2 t : FVec Ideal Cert.KernelIdeal.S1024x1024 .bf16) (ix2 k o)
      = elem (Cert.ReferenceIdeal.Value.res_main_v164 V0) i k * sq (V0 (Proc.devRef .tc Cert.ReferenceIdeal.main_arg5)) o k :=
    fun k => congrArg₂ (· * ·) (spline_eq V0 _ _ _ _ h1 h2 h3 h4 ht hs hr _ r k i (hx k))
      ((Cert.KernelIdeal.Tables.wp_blk m c t k o).trans (congrArg (fun w => sq w o k) h5.symm))
  refine (congrArg₂ (fun y z : EReal => y + z) (congrArg₂ (fun y z : EReal => y + z) (Finset.sum_congr rfl fun k _ => hP k)
    (Finset.sum_congr rfl fun k _ => congrArg₂ (fun y z : EReal => y * z) (hx k)
      ((Cert.KernelIdeal.Tables.wr_blk m c t k o).trans (congrArg (fun w => Cert.ReferenceIdeal.Tables.sq w o k) h7.symm))))
    (congrArg (fun w => vec w o) h6.symm)).trans ?_
  exact add_right_comm _ _ _

end Cert.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_valid
public import proofs.«01_k».proof.Proof.Equal
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The ideal kernel's record of replaced operations holds: words of two bf16 halves read as pairs of rows. -/
theorem preserves : Cert.preserves_Kernel_KernelIdeal :=
  ⟨IdealRules.bf16_pair.bufferStatement _ _, IdealRules.bf16_pair.halfStatement _,
    IdealRules.bf16_pair.statement _ _, IdealRules.bf16_pair.statement _ _,
    IdealRules.bf16_pair.statement _ _⟩

/-- Under the precondition the ideal kernel and the ideal reference leave one result: the kernel's array is the
    reference's, index by index, and neither program changes its arguments. -/
theorem algebraic : @Cert.algebraic_KernelIdeal_ReferenceIdeal_pre_valid Cert.KernelIdeal.Gen.facts
    Cert.ReferenceIdeal.Gen.facts Cert.Pre_valid.Gen.facts :=
  fun m ρ m' ρ' hpre hag => ⟨fun c => Cert.KernelIdeal.Value.G5 m c, Cert.KernelIdeal.Value.run m ρ,
    (θ_run _ _ _).mono (fun _ h c => ⟨(h c).1.trans
      (Cert.Equal.result_eq (StableHlo.launchContents m' c) m c (hpre c) (hag c).1 (hag c).2.1 (hag c).2.2.1
        (hag c).2.2.2.1 (hag c).2.2.2.2.1 (hag c).2.2.2.2.2.1 (hag c).2.2.2.2.2.2.1 (hag c).2.2.2.2.2.2.2).symm, (h c).2⟩)
      (Cert.ReferenceIdeal.Value.run m' ρ')⟩

/-- The claim. -/
theorem claim : Cert.Claim :=
  ⟨Cert.Kernel.Gen.facts, Cert.KernelIdeal.Gen.facts, Cert.ReferenceIdeal.Gen.facts, Cert.Pre_valid.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ),
    fun m ρ _ => (θ_run _ _ _).mono (fun r h => ⟨fun c => (h c).2, sem_eq_zero_of_no_sems (by decide) r.2⟩)
      (Cert.ReferenceIdeal.Value.run m ρ),
    preserves, algebraic⟩

end Cert.Proof

end
